-- ==== Defs.lean ====
def Pre_Fox [hPre_fox_tables : Cert.Pre_fox_tables.Facts] (m : (ℓ : Loc Cert.Fox.nD Cert.Fox.τ Cert.Fox.sig) → Buf (Elt Bits) ℓ) : Prop :=
  ∀ c : Dev Cert.Fox.nD,
    (Cert.Pre_fox_tables.fn (F := Bits) (m ((c.tc : Thread Cert.Fox.nD Cert.Fox.τ).loc Cert.Fox.main_arg0)) (m ((c.tc : Thread Cert.Fox.nD Cert.Fox.τ).loc Cert.Fox.main_arg1)) (m ((c.tc : Thread Cert.Fox.nD Cert.Fox.τ).loc Cert.Fox.main_arg2)) (m ((c.tc : Thread Cert.Fox.nD Cert.Fox.τ).loc Cert.Fox.main_arg3)) (m ((c.tc : Thread Cert.Fox.nD Cert.Fox.τ).loc Cert.Fox.main_arg4)) (m ((c.tc : Thread Cert.Fox.nD Cert.Fox.τ).loc Cert.Fox.main_arg5))).1 = (fun _ => 1#1)
    ∧ (Cert.Pre_fox_tables.fn (F := Bits) (m ((c.tc : Thread Cert.Fox.nD Cert.Fox.τ).loc Cert.Fox.main_arg0)) (m ((c.tc : Thread Cert.Fox.nD Cert.Fox.τ).loc Cert.Fox.main_arg1)) (m ((c.tc : Thread Cert.Fox.nD Cert.Fox.τ).loc Cert.Fox.main_arg2)) (m ((c.tc : Thread Cert.Fox.nD Cert.Fox.τ).loc Cert.Fox.main_arg3)) (m ((c.tc : Thread Cert.Fox.nD Cert.Fox.τ).loc Cert.Fox.main_arg4)) (m ((c.tc : Thread Cert.Fox.nD Cert.Fox.τ).loc Cert.Fox.main_arg5))).2 = (fun _ => 1#1)

def Pre_Fox_fox_finite [hPre_fox_finite : Cert.Pre_fox_finite.Facts] (m : (ℓ : Loc Cert.Fox.nD Cert.Fox.τ Cert.Fox.sig) → Buf (Elt Bits) ℓ) : Prop :=
  ∀ c : Dev Cert.Fox.nD,
    (Cert.Pre_fox_finite.fn (F := Bits) (m ((c.tc : Thread Cert.Fox.nD Cert.Fox.τ).loc Cert.Fox.main_arg0)) (m ((c.tc : Thread Cert.Fox.nD Cert.Fox.τ).loc Cert.Fox.main_arg1)) (m ((c.tc : Thread Cert.Fox.nD Cert.Fox.τ).loc Cert.Fox.main_arg2)) (m ((c.tc : Thread Cert.Fox.nD Cert.Fox.τ).loc Cert.Fox.main_arg3)) (m ((c.tc : Thread Cert.Fox.nD Cert.Fox.τ).loc Cert.Fox.main_arg4)) (m ((c.tc : Thread Cert.Fox.nD Cert.Fox.τ).loc Cert.Fox.main_arg5))).1 = (fun _ => 1#1)
    ∧ (Cert.Pre_fox_finite.fn (F := Bits) (m ((c.tc : Thread Cert.Fox.nD Cert.Fox.τ).loc Cert.Fox.main_arg0)) (m ((c.tc : Thread Cert.Fox.nD Cert.Fox.τ).loc Cert.Fox.main_arg1)) (m ((c.tc : Thread Cert.Fox.nD Cert.Fox.τ).loc Cert.Fox.main_arg2)) (m ((c.tc : Thread Cert.Fox.nD Cert.Fox.τ).loc Cert.Fox.main_arg3)) (m ((c.tc : Thread Cert.Fox.nD Cert.Fox.τ).loc Cert.Fox.main_arg4)) (m ((c.tc : Thread Cert.Fox.nD Cert.Fox.τ).loc Cert.Fox.main_arg5))).2.1 = (fun _ => 1#1)
    ∧ (Cert.Pre_fox_finite.fn (F := Bits) (m ((c.tc : Thread Cert.Fox.nD Cert.Fox.τ).loc Cert.Fox.main_arg0)) (m ((c.tc : Thread Cert.Fox.nD Cert.Fox.τ).loc Cert.Fox.main_arg1)) (m ((c.tc : Thread Cert.Fox.nD Cert.Fox.τ).loc Cert.Fox.main_arg2)) (m ((c.tc : Thread Cert.Fox.nD Cert.Fox.τ).loc Cert.Fox.main_arg3)) (m ((c.tc : Thread Cert.Fox.nD Cert.Fox.τ).loc Cert.Fox.main_arg4)) (m ((c.tc : Thread Cert.Fox.nD Cert.Fox.τ).loc Cert.Fox.main_arg5))).2.2.1 = (fun _ => 1#1)
    ∧ (Cert.Pre_fox_finite.fn (F := Bits) (m ((c.tc : Thread Cert.Fox.nD Cert.Fox.τ).loc Cert.Fox.main_arg0)) (m ((c.tc : Thread Cert.Fox.nD Cert.Fox.τ).loc Cert.Fox.main_arg1)) (m ((c.tc : Thread Cert.Fox.nD Cert.Fox.τ).loc Cert.Fox.main_arg2)) (m ((c.tc : Thread Cert.Fox.nD Cert.Fox.τ).loc Cert.Fox.main_arg3)) (m ((c.tc : Thread Cert.Fox.nD Cert.Fox.τ).loc Cert.Fox.main_arg4)) (m ((c.tc : Thread Cert.Fox.nD Cert.Fox.τ).loc Cert.Fox.main_arg5))).2.2.2 = (fun _ => 1#1)

def Pre_FoxIdeal [hPre_fox_tables : Cert.Pre_fox_tables.Facts] (m : (ℓ : Loc Cert.FoxIdeal.nD Cert.FoxIdeal.τ Cert.FoxIdeal.sig) → Buf (Elt Ideal) ℓ) : Prop :=
  ∀ c : Dev Cert.FoxIdeal.nD,
    (Cert.Pre_fox_tables.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4)) (m ((c.tc : Thread Cert.FoxIdeal.nD Cert.FoxIdeal.τ).loc Cert.FoxIdeal.main_arg5))).1 = (fun _ => 1#1)
    ∧ (Cert.Pre_fox_tables.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4)) (m ((c.tc : Thread Cert.FoxIdeal.nD Cert.FoxIdeal.τ).loc Cert.FoxIdeal.main_arg5))).2 = (fun _ => 1#1)

def Pre_FoxIdeal_fox_finite [hPre_fox_finite : Cert.Pre_fox_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4)) (m ((c.tc : Thread Cert.FoxIdeal.nD Cert.FoxIdeal.τ).loc Cert.FoxIdeal.main_arg5))).1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4)) (m ((c.tc : Thread Cert.FoxIdeal.nD Cert.FoxIdeal.τ).loc Cert.FoxIdeal.main_arg5))).2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4)) (m ((c.tc : Thread Cert.FoxIdeal.nD Cert.FoxIdeal.τ).loc Cert.FoxIdeal.main_arg5))).2.2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4)) (m ((c.tc : Thread Cert.FoxIdeal.nD Cert.FoxIdeal.τ).loc Cert.FoxIdeal.main_arg5))).2.2.2 = (fun _ => 1#1)

def Pre_FoxRefIdeal [hPre_fox_tables : Cert.Pre_fox_tables.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_tables.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4)) (m ((c.tc : Thread Cert.FoxRefIdeal.nD Cert.FoxRefIdeal.τ).loc Cert.FoxRefIdeal.main_arg5))).1 = (fun _ => 1#1)
    ∧ (Cert.Pre_fox_tables.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4)) (m ((c.tc : Thread Cert.FoxRefIdeal.nD Cert.FoxRefIdeal.τ).loc Cert.FoxRefIdeal.main_arg5))).2 = (fun _ => 1#1)

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4)) (m ((c.tc : Thread Cert.FoxRefIdeal.nD Cert.FoxRefIdeal.τ).loc Cert.FoxRefIdeal.main_arg5))).1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4)) (m ((c.tc : Thread Cert.FoxRefIdeal.nD Cert.FoxRefIdeal.τ).loc Cert.FoxRefIdeal.main_arg5))).2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4)) (m ((c.tc : Thread Cert.FoxRefIdeal.nD Cert.FoxRefIdeal.τ).loc Cert.FoxRefIdeal.main_arg5))).2.2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4)) (m ((c.tc : Thread Cert.FoxRefIdeal.nD Cert.FoxRefIdeal.τ).loc Cert.FoxRefIdeal.main_arg5))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightRefIdeal (m : (ℓ : Loc Cert.WeightRefIdeal.nD Cert.WeightRefIdeal.τ Cert.WeightRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_GateWeight (m : (ℓ : Loc Cert.GateWeight.nD Cert.GateWeight.τ Cert.GateWeight.sig) → Buf (Elt Bits) ℓ) : Prop :=
  True

def Pre_GateWeightIdeal (m : (ℓ : Loc Cert.GateWeightIdeal.nD Cert.GateWeightIdeal.τ Cert.GateWeightIdeal.sig) → Buf (Elt Ideal) ℓ) : Prop :=
  True

def Pre_GateWeightRefIdeal (m : (ℓ : Loc Cert.GateWeightRefIdeal.nD Cert.GateWeightRefIdeal.τ Cert.GateWeightRefIdeal.sig) → Buf (Elt Ideal) ℓ) : Prop :=
  True

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightRefIdeal (m : (ℓ : Loc Cert.InWeightRefIdeal.nD Cert.InWeightRefIdeal.τ Cert.InWeightRefIdeal.sig) → Buf (Elt Ideal) ℓ) : Prop :=
  True

def quiescent_Fox [hFox : Cert.Fox.Facts] [hPre_fox_tables : Cert.Pre_fox_tables.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4)
      ∧ r.2.mem ((c.tc : Thread Cert.Fox.nD Cert.Fox.τ).loc Cert.Fox.main_arg5) = m ((c.tc : Thread Cert.Fox.nD Cert.Fox.τ).loc Cert.Fox.main_arg5))
      ∧ r.2.sem = fun _ => 0)

def quiescent_Fox_pre_fox_finite [hFox : Cert.Fox.Facts] [hPre_fox_finite : Cert.Pre_fox_finite.Facts] : Prop :=
  ∀ (m : (ℓ : Loc Cert.Fox.nD Cert.Fox.τ Cert.Fox.sig) → Buf (Elt Bits) ℓ) (g : Dev Cert.Fox.nD → PrngReg), Pre_Fox_fox_finite m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4)
      ∧ r.2.mem ((c.tc : Thread Cert.Fox.nD Cert.Fox.τ).loc Cert.Fox.main_arg5) = m ((c.tc : Thread Cert.Fox.nD Cert.Fox.τ).loc Cert.Fox.main_arg5))
      ∧ r.2.sem = fun _ => 0)

def quiescent_FoxIdeal [hFoxIdeal : Cert.FoxIdeal.Facts] [hPre_fox_tables : Cert.Pre_fox_tables.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4)
      ∧ r.2.mem ((c.tc : Thread Cert.FoxIdeal.nD Cert.FoxIdeal.τ).loc Cert.FoxIdeal.main_arg5) = m ((c.tc : Thread Cert.FoxIdeal.nD Cert.FoxIdeal.τ).loc Cert.FoxIdeal.main_arg5))
      ∧ r.2.sem = fun _ => 0)

def quiescent_FoxIdeal_pre_fox_finite [hFoxIdeal : Cert.FoxIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4)
      ∧ r.2.mem ((c.tc : Thread Cert.FoxIdeal.nD Cert.FoxIdeal.τ).loc Cert.FoxIdeal.main_arg5) = m ((c.tc : Thread Cert.FoxIdeal.nD Cert.FoxIdeal.τ).loc Cert.FoxIdeal.main_arg5))
      ∧ r.2.sem = fun _ => 0)

def quiescent_FoxRefIdeal [hFoxRefIdeal : Cert.FoxRefIdeal.Facts] [hPre_fox_tables : Cert.Pre_fox_tables.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4)
      ∧ r.2.mem ((c.tc : Thread Cert.FoxRefIdeal.nD Cert.FoxRefIdeal.τ).loc Cert.FoxRefIdeal.main_arg5) = m ((c.tc : Thread Cert.FoxRefIdeal.nD Cert.FoxRefIdeal.τ).loc Cert.FoxRefIdeal.main_arg5))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4)
      ∧ r.2.mem ((c.tc : Thread Cert.FoxRefIdeal.nD Cert.FoxRefIdeal.τ).loc Cert.FoxRefIdeal.main_arg5) = m ((c.tc : Thread Cert.FoxRefIdeal.nD Cert.FoxRefIdeal.τ).loc Cert.FoxRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0))
      ∧ r.2.sem = fun _ => 0)

def quiescent_WeightRefIdeal [hWeightRefIdeal : Cert.WeightRefIdeal.Facts] : Prop :=
  ∀ (m : (ℓ : Loc Cert.WeightRefIdeal.nD Cert.WeightRefIdeal.τ Cert.WeightRefIdeal.sig) → Buf (Elt Ideal) ℓ) (g : Dev Cert.WeightRefIdeal.nD → PrngReg), Pre_WeightRefIdeal m →
    θ_run (Cert.WeightRefIdeal.defs (F := Ideal)) (onTc (τ := Cert.WeightRefIdeal.τ) (Cert.WeightRefIdeal.main (F := Ideal))) ⟨m, fun _ => 0, g⟩ (fun r => (∀ c : Dev Cert.WeightRefIdeal.nD,
      r.2.mem ((c.tc : Thread Cert.WeightRefIdeal.nD Cert.WeightRefIdeal.τ).loc Cert.WeightRefIdeal.main_arg0) = m ((c.tc : Thread Cert.WeightRefIdeal.nD Cert.WeightRefIdeal.τ).loc Cert.WeightRefIdeal.main_arg0))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0))
      ∧ r.2.sem = fun _ => 0)

def quiescent_GateWeight [hGateWeight : Cert.GateWeight.Facts] : Prop :=
  ∀ (m : (ℓ : Loc Cert.GateWeight.nD Cert.GateWeight.τ Cert.GateWeight.sig) → Buf (Elt Bits) ℓ) (g : Dev Cert.GateWeight.nD → PrngReg), Pre_GateWeight m →
    θ_run (Cert.GateWeight.defs (F := Bits)) (onTc (τ := Cert.GateWeight.τ) (Cert.GateWeight.main (F := Bits))) ⟨m, fun _ => 0, g⟩ (fun r => (∀ c : Dev Cert.GateWeight.nD,
      r.2.mem ((c.tc : Thread Cert.GateWeight.nD Cert.GateWeight.τ).loc Cert.GateWeight.main_arg0) = m ((c.tc : Thread Cert.GateWeight.nD Cert.GateWeight.τ).loc Cert.GateWeight.main_arg0))
      ∧ r.2.sem = fun _ => 0)

def quiescent_GateWeightIdeal [hGateWeightIdeal : Cert.GateWeightIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg), Pre_GateWeightIdeal m →
    θ_run (Cert.GateWeightIdeal.defs (F := Ideal)) (onTc (τ := Cert.GateWeightIdeal.τ) (Cert.GateWeightIdeal.main (F := Ideal))) ⟨m, fun _ => 0, g⟩ (fun r => (∀ c : Dev Cert.GateWeightIdeal.nD,
      r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0))
      ∧ r.2.sem = fun _ => 0)

def quiescent_GateWeightRefIdeal [hGateWeightRefIdeal : Cert.GateWeightRefIdeal.Facts] : Prop :=
  ∀ (m : (ℓ : Loc Cert.GateWeightRefIdeal.nD Cert.GateWeightRefIdeal.τ Cert.GateWeightRefIdeal.sig) → Buf (Elt Ideal) ℓ) (g : Dev Cert.GateWeightRefIdeal.nD → PrngReg), Pre_GateWeightRefIdeal m →
    θ_run (Cert.GateWeightRefIdeal.defs (F := Ideal)) (onTc (τ := Cert.GateWeightRefIdeal.τ) (Cert.GateWeightRefIdeal.main (F := Ideal))) ⟨m, fun _ => 0, g⟩ (fun r => (∀ c : Dev Cert.GateWeightRefIdeal.nD,
      r.2.mem ((c.tc : Thread Cert.GateWeightRefIdeal.nD Cert.GateWeightRefIdeal.τ).loc Cert.GateWeightRefIdeal.main_arg0) = m ((c.tc : Thread Cert.GateWeightRefIdeal.nD Cert.GateWeightRefIdeal.τ).loc Cert.GateWeightRefIdeal.main_arg0))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0))
      ∧ r.2.sem = fun _ => 0)

def quiescent_InWeightRefIdeal [hInWeightRefIdeal : Cert.InWeightRefIdeal.Facts] : Prop :=
  ∀ (m : (ℓ : Loc Cert.InWeightRefIdeal.nD Cert.InWeightRefIdeal.τ Cert.InWeightRefIdeal.sig) → Buf (Elt Ideal) ℓ) (g : Dev Cert.InWeightRefIdeal.nD → PrngReg), Pre_InWeightRefIdeal m →
    θ_run (Cert.InWeightRefIdeal.defs (F := Ideal)) (onTc (τ := Cert.InWeightRefIdeal.τ) (Cert.InWeightRefIdeal.main (F := Ideal))) ⟨m, fun _ => 0, g⟩ (fun r => (∀ c : Dev Cert.InWeightRefIdeal.nD,
      r.2.mem ((c.tc : Thread Cert.InWeightRefIdeal.nD Cert.InWeightRefIdeal.τ).loc Cert.InWeightRefIdeal.main_arg0) = m ((c.tc : Thread Cert.InWeightRefIdeal.nD Cert.InWeightRefIdeal.τ).loc Cert.InWeightRefIdeal.main_arg0))
      ∧ r.2.sem = fun _ => 0)

def preserves_Fox_FoxIdeal : Prop :=
  True

def algebraic_FoxIdeal_FoxRefIdeal_pre_fox_finite [hFoxIdeal : Cert.FoxIdeal.Facts] [hFoxRefIdeal : Cert.FoxRefIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_fox_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)
      ∧ m' ((c.tc : Thread Cert.FoxRefIdeal.nD Cert.FoxRefIdeal.τ).loc Cert.FoxRefIdeal.main_arg5) = m ((c.tc : Thread Cert.FoxIdeal.nD Cert.FoxIdeal.τ).loc Cert.FoxIdeal.main_arg5)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4)
          ∧ r.2.mem ((c.tc : Thread Cert.FoxIdeal.nD Cert.FoxIdeal.τ).loc Cert.FoxIdeal.main_arg5) = m ((c.tc : Thread Cert.FoxIdeal.nD Cert.FoxIdeal.τ).loc Cert.FoxIdeal.main_arg5))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v44) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4)
          ∧ r.2.mem ((c.tc : Thread Cert.FoxRefIdeal.nD Cert.FoxRefIdeal.τ).loc Cert.FoxRefIdeal.main_arg5) = m' ((c.tc : Thread Cert.FoxRefIdeal.nD Cert.FoxRefIdeal.τ).loc Cert.FoxRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v23) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v14) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v41) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v22_0)) (v1 : (c : Dev Cert.RopeIdeal.nD) → Buf (Elt Ideal) ((c.tc : Thread Cert.RopeIdeal.nD Cert.RopeIdeal.τ).loc Cert.RopeIdeal.main_v22_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v22_0) = v0 c
          ∧ r.2.mem ((c.tc : Thread Cert.RopeIdeal.nD Cert.RopeIdeal.τ).loc Cert.RopeIdeal.main_v22_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v16) = v0 c
          ∧ r.2.mem ((c.tc : Thread Cert.RopeRefIdeal.nD Cert.RopeRefIdeal.τ).loc Cert.RopeRefIdeal.main_v19) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Weight_WeightIdeal : Prop :=
  True

def algebraic_WeightIdeal_WeightRefIdeal [hWeightIdeal : Cert.WeightIdeal.Facts] [hWeightRefIdeal : Cert.WeightRefIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightRefIdeal.nD Cert.WeightRefIdeal.τ Cert.WeightRefIdeal.sig) → Buf (Elt Ideal) ℓ) (g' : Dev Cert.WeightRefIdeal.nD → PrngReg), Pre_WeightIdeal m →
    (∀ c : Dev Cert.WeightIdeal.nD,
      m' ((c.tc : Thread Cert.WeightRefIdeal.nD Cert.WeightRefIdeal.τ).loc Cert.WeightRefIdeal.main_arg0) = m ((c.tc : Thread Cert.WeightIdeal.nD Cert.WeightIdeal.τ).loc Cert.WeightIdeal.main_arg0)) →
    ∃ (v0 : (c : Dev Cert.WeightIdeal.nD) → Buf (Elt Ideal) ((c.tc : Thread Cert.WeightIdeal.nD Cert.WeightIdeal.τ).loc Cert.WeightIdeal.main_v0)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v0) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0))
      ∧ θ_run (Cert.WeightRefIdeal.defs (F := Ideal)) (onTc (τ := Cert.WeightRefIdeal.τ) (Cert.WeightRefIdeal.main (F := Ideal))) ⟨m', fun _ => 0, g'⟩ (fun r => ∀ c : Dev Cert.WeightRefIdeal.nD,
          r.2.mem ((c.tc : Thread Cert.WeightRefIdeal.nD Cert.WeightRefIdeal.τ).loc Cert.WeightRefIdeal.main_v2) = v0 c
          ∧ r.2.mem ((c.tc : Thread Cert.WeightRefIdeal.nD Cert.WeightRefIdeal.τ).loc Cert.WeightRefIdeal.main_arg0) = m' ((c.tc : Thread Cert.WeightRefIdeal.nD Cert.WeightRefIdeal.τ).loc Cert.WeightRefIdeal.main_arg0))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v2) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0))

def preserves_GateWeight_GateWeightIdeal : Prop :=
  True

def algebraic_GateWeightIdeal_GateWeightRefIdeal [hGateWeightIdeal : Cert.GateWeightIdeal.Facts] [hGateWeightRefIdeal : Cert.GateWeightRefIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg)
    (m' : (ℓ : Loc Cert.GateWeightRefIdeal.nD Cert.GateWeightRefIdeal.τ Cert.GateWeightRefIdeal.sig) → Buf (Elt Ideal) ℓ) (g' : Dev Cert.GateWeightRefIdeal.nD → PrngReg), Pre_GateWeightIdeal m →
    (∀ c : Dev Cert.GateWeightIdeal.nD,
      m' ((c.tc : Thread Cert.GateWeightRefIdeal.nD Cert.GateWeightRefIdeal.τ).loc Cert.GateWeightRefIdeal.main_arg0) = m ((c.tc : Thread Cert.GateWeightIdeal.nD Cert.GateWeightIdeal.τ).loc Cert.GateWeightIdeal.main_arg0)) →
    ∃ (v0 : (c : Dev Cert.GateWeightIdeal.nD) → Buf (Elt Ideal) ((c.tc : Thread Cert.GateWeightIdeal.nD Cert.GateWeightIdeal.τ).loc Cert.GateWeightIdeal.main_v0)),
      θ_run (Cert.GateWeightIdeal.defs (F := Ideal)) (onTc (τ := Cert.GateWeightIdeal.τ) (Cert.GateWeightIdeal.main (F := Ideal))) ⟨m, fun _ => 0, g⟩ (fun r => ∀ c : Dev Cert.GateWeightIdeal.nD,
          r.2.mem ((c.tc : Thread Cert.GateWeightIdeal.nD Cert.GateWeightIdeal.τ).loc Cert.GateWeightIdeal.main_v0) = v0 c
          ∧ r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0))
      ∧ θ_run (Cert.GateWeightRefIdeal.defs (F := Ideal)) (onTc (τ := Cert.GateWeightRefIdeal.τ) (Cert.GateWeightRefIdeal.main (F := Ideal))) ⟨m', fun _ => 0, g'⟩ (fun r => ∀ c : Dev Cert.GateWeightRefIdeal.nD,
          r.2.mem ((c.tc : Thread Cert.GateWeightRefIdeal.nD Cert.GateWeightRefIdeal.τ).loc Cert.GateWeightRefIdeal.main_v3) = v0 c
          ∧ r.2.mem ((c.tc : Thread Cert.GateWeightRefIdeal.nD Cert.GateWeightRefIdeal.τ).loc Cert.GateWeightRefIdeal.main_arg0) = m' ((c.tc : Thread Cert.GateWeightRefIdeal.nD Cert.GateWeightRefIdeal.τ).loc Cert.GateWeightRefIdeal.main_arg0))

def preserves_InWeight_InWeightIdeal : Prop :=
  True

def algebraic_InWeightIdeal_InWeightRefIdeal [hInWeightIdeal : Cert.InWeightIdeal.Facts] [hInWeightRefIdeal : Cert.InWeightRefIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightRefIdeal.nD Cert.InWeightRefIdeal.τ Cert.InWeightRefIdeal.sig) → Buf (Elt Ideal) ℓ) (g' : Dev Cert.InWeightRefIdeal.nD → PrngReg), Pre_InWeightIdeal m →
    (∀ c : Dev Cert.InWeightIdeal.nD,
      m' ((c.tc : Thread Cert.InWeightRefIdeal.nD Cert.InWeightRefIdeal.τ).loc Cert.InWeightRefIdeal.main_arg0) = m ((c.tc : Thread Cert.InWeightIdeal.nD Cert.InWeightIdeal.τ).loc Cert.InWeightIdeal.main_arg0)) →
    ∃ (v0 : (c : Dev Cert.InWeightIdeal.nD) → Buf (Elt Ideal) ((c.tc : Thread Cert.InWeightIdeal.nD Cert.InWeightIdeal.τ).loc Cert.InWeightIdeal.main_v0)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v0) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0))
      ∧ θ_run (Cert.InWeightRefIdeal.defs (F := Ideal)) (onTc (τ := Cert.InWeightRefIdeal.τ) (Cert.InWeightRefIdeal.main (F := Ideal))) ⟨m', fun _ => 0, g'⟩ (fun r => ∀ c : Dev Cert.InWeightRefIdeal.nD,
          r.2.mem ((c.tc : Thread Cert.InWeightRefIdeal.nD Cert.InWeightRefIdeal.τ).loc Cert.InWeightRefIdeal.main_v12) = v0 c
          ∧ r.2.mem ((c.tc : Thread Cert.InWeightRefIdeal.nD Cert.InWeightRefIdeal.τ).loc Cert.InWeightRefIdeal.main_arg0) = m' ((c.tc : Thread Cert.InWeightRefIdeal.nD Cert.InWeightRefIdeal.τ).loc Cert.InWeightRefIdeal.main_arg0))

def Claim : Prop :=
  ∃ (hFox : Cert.Fox.Facts) (hFoxIdeal : Cert.FoxIdeal.Facts) (hFoxRefIdeal : Cert.FoxRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hRope : Cert.Rope.Facts) (hRopeIdeal : Cert.RopeIdeal.Facts) (hRopeRefIdeal : Cert.RopeRefIdeal.Facts) (hWeight : Cert.Weight.Facts) (hWeightIdeal : Cert.WeightIdeal.Facts) (hWeightRefIdeal : Cert.WeightRefIdeal.Facts) (hBranch : Cert.Branch.Facts) (hBranchIdeal : Cert.BranchIdeal.Facts) (hBranchRefIdeal : Cert.BranchRefIdeal.Facts) (hGateWeight : Cert.GateWeight.Facts) (hGateWeightIdeal : Cert.GateWeightIdeal.Facts) (hGateWeightRefIdeal : Cert.GateWeightRefIdeal.Facts) (hInWeight : Cert.InWeight.Facts) (hInWeightIdeal : Cert.InWeightIdeal.Facts) (hInWeightRefIdeal : Cert.InWeightRefIdeal.Facts) (hPre_fox_tables : Cert.Pre_fox_tables.Facts) (hPre_fox_finite : Cert.Pre_fox_finite.Facts),
    quiescent_Fox (hFox := hFox) (hPre_fox_tables := hPre_fox_tables)
    ∧ quiescent_Fox_pre_fox_finite (hFox := hFox) (hPre_fox_finite := hPre_fox_finite)
    ∧ quiescent_FoxIdeal (hFoxIdeal := hFoxIdeal) (hPre_fox_tables := hPre_fox_tables)
    ∧ quiescent_FoxIdeal_pre_fox_finite (hFoxIdeal := hFoxIdeal) (hPre_fox_finite := hPre_fox_finite)
    ∧ quiescent_FoxRefIdeal (hFoxRefIdeal := hFoxRefIdeal) (hPre_fox_tables := hPre_fox_tables)
    ∧ quiescent_FoxRefIdeal_pre_fox_finite (hFoxRefIdeal := hFoxRefIdeal) (hPre_fox_finite := hPre_fox_finite)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Rope (hRope := hRope)
    ∧ quiescent_RopeIdeal (hRopeIdeal := hRopeIdeal)
    ∧ quiescent_RopeRefIdeal (hRopeRefIdeal := hRopeRefIdeal)
    ∧ quiescent_Weight (hWeight := hWeight)
    ∧ quiescent_WeightIdeal (hWeightIdeal := hWeightIdeal)
    ∧ quiescent_WeightRefIdeal (hWeightRefIdeal := hWeightRefIdeal)
    ∧ quiescent_Branch (hBranch := hBranch)
    ∧ quiescent_BranchIdeal (hBranchIdeal := hBranchIdeal)
    ∧ quiescent_BranchRefIdeal (hBranchRefIdeal := hBranchRefIdeal)
    ∧ quiescent_GateWeight (hGateWeight := hGateWeight)
    ∧ quiescent_GateWeightIdeal (hGateWeightIdeal := hGateWeightIdeal)
    ∧ quiescent_GateWeightRefIdeal (hGateWeightRefIdeal := hGateWeightRefIdeal)
    ∧ quiescent_InWeight (hInWeight := hInWeight)
    ∧ quiescent_InWeightIdeal (hInWeightIdeal := hInWeightIdeal)
    ∧ quiescent_InWeightRefIdeal (hInWeightRefIdeal := hInWeightRefIdeal)
    ∧ preserves_Fox_FoxIdeal
    ∧ algebraic_FoxIdeal_FoxRefIdeal_pre_fox_finite (hFoxIdeal := hFoxIdeal) (hFoxRefIdeal := hFoxRefIdeal) (hPre_fox_finite := hPre_fox_finite)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_Rope_RopeIdeal
    ∧ algebraic_RopeIdeal_RopeRefIdeal (hRopeIdeal := hRopeIdeal) (hRopeRefIdeal := hRopeRefIdeal)
    ∧ preserves_Weight_WeightIdeal
    ∧ algebraic_WeightIdeal_WeightRefIdeal (hWeightIdeal := hWeightIdeal) (hWeightRefIdeal := hWeightRefIdeal)
    ∧ preserves_Branch_BranchIdeal
    ∧ algebraic_BranchIdeal_BranchRefIdeal (hBranchIdeal := hBranchIdeal) (hBranchRefIdeal := hBranchRefIdeal)
    ∧ preserves_GateWeight_GateWeightIdeal
    ∧ algebraic_GateWeightIdeal_GateWeightRefIdeal (hGateWeightIdeal := hGateWeightIdeal) (hGateWeightRefIdeal := hGateWeightRefIdeal)
    ∧ preserves_InWeight_InWeightIdeal
    ∧ algebraic_InWeightIdeal_InWeightRefIdeal (hInWeightIdeal := hInWeightIdeal) (hInWeightRefIdeal := hInWeightRefIdeal)
-- ==== Pre_fox_finite.lean ====
abbrev S136 : Shape := ⟨1, ![136]⟩
abbrev S8192x1024 : Shape := ⟨2, ![8192, 1024]⟩
abbrev S8192x512 : Shape := ⟨2, ![8192, 512]⟩
abbrev S8192x8192 : Shape := ⟨2, ![8192, 8192]⟩
abbrev S_ : Shape := ⟨0, ![]⟩

class Facts : Prop where
  bcast_S_S8192x1024 : S_.BroadcastsInDim S8192x1024 (![] : Fin 0 → Fin S8192x1024.rank)

variable [Facts]

noncomputable abbrev lit0 : Fin 136 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32 | 91 => 13#32 | 92 => 13#32 | 93 => 13#32 | 94 => 13#32 | 95 => 13#32
  | 96 => 13#32 | 97 => 13#32 | 98 => 13#32 | 99 => 13#32 | 100 => 13#32 | 101 => 13#32 | 102 => 13#32 | 103 => 13#32
  | 104 => 13#32 | 105 => 14#32 | 106 => 14#32 | 107 => 14#32 | 108 => 14#32 | 109 => 14#32 | 110 => 14#32 | 111 => 14#32
  | 112 => 14#32 | 113 => 14#32 | 114 => 14#32 | 115 => 14#32 | 116 => 14#32 | 117 => 14#32 | 118 => 14#32 | 119 => 14#32
  | 120 => 15#32 | 121 => 15#32 | 122 => 15#32 | 123 => 15#32 | 124 => 15#32 | 125 => 15#32 | 126 => 15#32 | 127 => 15#32
  | 128 => 15#32 | 129 => 15#32 | 130 => 15#32 | 131 => 15#32 | 132 => 15#32 | 133 => 15#32 | 134 => 15#32 | 135 => 15#32
  | _ => 0#32

noncomputable abbrev lit1 : Fin 136 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32 | 66 => 0#32 | 67 => 1#32 | 68 => 2#32 | 69 => 3#32 | 70 => 4#32 | 71 => 5#32
  | 72 => 6#32 | 73 => 7#32 | 74 => 8#32 | 75 => 9#32 | 76 => 10#32 | 77 => 11#32 | 78 => 0#32 | 79 => 1#32
  | 80 => 2#32 | 81 => 3#32 | 82 => 4#32 | 83 => 5#32 | 84 => 6#32 | 85 => 7#32 | 86 => 8#32 | 87 => 9#32
  | 88 => 10#32 | 89 => 11#32 | 90 => 12#32 | 91 => 0#32 | 92 => 1#32 | 93 => 2#32 | 94 => 3#32 | 95 => 4#32
  | 96 => 5#32 | 97 => 6#32 | 98 => 7#32 | 99 => 8#32 | 100 => 9#32 | 101 => 10#32 | 102 => 11#32 | 103 => 12#32
  | 104 => 13#32 | 105 => 0#32 | 106 => 1#32 | 107 => 2#32 | 108 => 3#32 | 109 => 4#32 | 110 => 5#32 | 111 => 6#32
  | 112 => 7#32 | 113 => 8#32 | 114 => 9#32 | 115 => 10#32 | 116 => 11#32 | 117 => 12#32 | 118 => 13#32 | 119 => 14#32
  | 120 => 0#32 | 121 => 1#32 | 122 => 2#32 | 123 => 3#32 | 124 => 4#32 | 125 => 5#32 | 126 => 6#32 | 127 => 7#32
  | 128 => 8#32 | 129 => 9#32 | 130 => 10#32 | 131 => 11#32 | 132 => 12#32 | 133 => 13#32 | 134 => 14#32 | 135 => 15#32
  | _ => 0#32

def fn {F : FTy → Type} [FloatOps F] (main_arg0 : IVec S136 32) (main_arg1 : IVec S136 32) (main_arg2 : FVec F S8192x1024 .bf16) (main_arg3 : FVec F S8192x1024 .bf16) (main_arg4 : FVec F S8192x512 .bf16) (main_arg5 : FVec F S8192x8192 .f32) : IVec S136 1 × IVec S136 1 × IVec S8192x1024 1 × IVec S8192x1024 1 :=
  let main_c : IVec S136 32 := fun i => lit0 (S136.rowMajor i)
  let main_c_0 : IVec S136 32 := fun i => lit1 (S136.rowMajor i)
  let main_v0 : IVec S136 1 := cmpi .eq main_arg0 main_c
  let main_v1 : IVec S136 1 := cmpi .eq main_arg1 main_c_0
  let main_v2 : FVec F S8192x1024 .bf16 := Host.absf main_arg2
  let main_cst : FVec F S_ .bf16 := constant S_ .bf16 0x7F80#16
  let main_v3 : FVec F S8192x1024 .bf16 := broadcastInDim S8192x1024 ![] bcast_S_S8192x1024 main_cst
  let main_v4 : IVec S8192x1024 1 := cmpf .olt main_v2 main_v3
  let main_v5 : FVec F S8192x1024 .bf16 := Host.absf main_arg3
  let main_cst_1 : FVec F S_ .bf16 := constant S_ .bf16 0x7F80#16
  let main_v6 : FVec F S8192x1024 .bf16 := broadcastInDim S8192x1024 ![] bcast_S_S8192x1024 main_cst_1
  let main_v7 : IVec S8192x1024 1 := cmpf .olt main_v5 main_v6
  (main_v0, main_v1, main_v4, main_v7)
-- ==== Pre_fox_tables.lean ====
abbrev S136 : Shape := ⟨1, ![136]⟩
abbrev S8192x1024 : Shape := ⟨2, ![8192, 1024]⟩
abbrev S8192x512 : Shape := ⟨2, ![8192, 512]⟩
abbrev S8192x8192 : Shape := ⟨2, ![8192, 8192]⟩

class Facts : Prop where

variable [Facts]

noncomputable abbrev lit0 : Fin 136 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32 | 91 => 13#32 | 92 => 13#32 | 93 => 13#32 | 94 => 13#32 | 95 => 13#32
  | 96 => 13#32 | 97 => 13#32 | 98 => 13#32 | 99 => 13#32 | 100 => 13#32 | 101 => 13#32 | 102 => 13#32 | 103 => 13#32
  | 104 => 13#32 | 105 => 14#32 | 106 => 14#32 | 107 => 14#32 | 108 => 14#32 | 109 => 14#32 | 110 => 14#32 | 111 => 14#32
  | 112 => 14#32 | 113 => 14#32 | 114 => 14#32 | 115 => 14#32 | 116 => 14#32 | 117 => 14#32 | 118 => 14#32 | 119 => 14#32
  | 120 => 15#32 | 121 => 15#32 | 122 => 15#32 | 123 => 15#32 | 124 => 15#32 | 125 => 15#32 | 126 => 15#32 | 127 => 15#32
  | 128 => 15#32 | 129 => 15#32 | 130 => 15#32 | 131 => 15#32 | 132 => 15#32 | 133 => 15#32 | 134 => 15#32 | 135 => 15#32
  | _ => 0#32

noncomputable abbrev lit1 : Fin 136 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32 | 66 => 0#32 | 67 => 1#32 | 68 => 2#32 | 69 => 3#32 | 70 => 4#32 | 71 => 5#32
  | 72 => 6#32 | 73 => 7#32 | 74 => 8#32 | 75 => 9#32 | 76 => 10#32 | 77 => 11#32 | 78 => 0#32 | 79 => 1#32
  | 80 => 2#32 | 81 => 3#32 | 82 => 4#32 | 83 => 5#32 | 84 => 6#32 | 85 => 7#32 | 86 => 8#32 | 87 => 9#32
  | 88 => 10#32 | 89 => 11#32 | 90 => 12#32 | 91 => 0#32 | 92 => 1#32 | 93 => 2#32 | 94 => 3#32 | 95 => 4#32
  | 96 => 5#32 | 97 => 6#32 | 98 => 7#32 | 99 => 8#32 | 100 => 9#32 | 101 => 10#32 | 102 => 11#32 | 103 => 12#32
  | 104 => 13#32 | 105 => 0#32 | 106 => 1#32 | 107 => 2#32 | 108 => 3#32 | 109 => 4#32 | 110 => 5#32 | 111 => 6#32
  | 112 => 7#32 | 113 => 8#32 | 114 => 9#32 | 115 => 10#32 | 116 => 11#32 | 117 => 12#32 | 118 => 13#32 | 119 => 14#32
  | 120 => 0#32 | 121 => 1#32 | 122 => 2#32 | 123 => 3#32 | 124 => 4#32 | 125 => 5#32 | 126 => 6#32 | 127 => 7#32
  | 128 => 8#32 | 129 => 9#32 | 130 => 10#32 | 131 => 11#32 | 132 => 12#32 | 133 => 13#32 | 134 => 14#32 | 135 => 15#32
  | _ => 0#32

def fn {F : FTy → Type} [FloatOps F] (main_arg0 : IVec S136 32) (main_arg1 : IVec S136 32) (main_arg2 : FVec F S8192x1024 .bf16) (main_arg3 : FVec F S8192x1024 .bf16) (main_arg4 : FVec F S8192x512 .bf16) (main_arg5 : FVec F S8192x8192 .f32) : IVec S136 1 × IVec S136 1 :=
  let main_c : IVec S136 32 := fun i => lit0 (S136.rowMajor i)
  let main_c_0 : IVec S136 32 := fun i => lit1 (S136.rowMajor i)
  let main_v0 : IVec S136 1 := cmpi .eq main_arg0 main_c
  let main_v1 : IVec S136 1 := cmpi .eq main_arg1 main_c_0
  (main_v0, main_v1)
-- ==== Fox.lean ====
abbrev S136 : Shape := ⟨1, ![136]⟩
abbrev S8192x1024 : Shape := ⟨2, ![8192, 1024]⟩
abbrev S8192x512 : Shape := ⟨2, ![8192, 512]⟩
abbrev S8192x8192 : Shape := ⟨2, ![8192, 8192]⟩
abbrev S512x1024 : Shape := ⟨2, ![512, 1024]⟩
abbrev S1 : Shape := ⟨1, ![1]⟩
abbrev S512x512 : Shape := ⟨2, ![512, 512]⟩
abbrev S8x512x256 : Shape := ⟨3, ![8, 512, 256]⟩
abbrev S512x128 : Shape := ⟨2, ![512, 128]⟩
abbrev S512x256 : Shape := ⟨2, ![512, 256]⟩
abbrev S1x512x256 : Shape := ⟨3, ![1, 512, 256]⟩
abbrev S1x128 : Shape := ⟨2, ![1, 128]⟩
abbrev S1x512x128 : Shape := ⟨3, ![1, 512, 128]⟩

abbrev nBuf : Space → Nat
  | .hbm => 5
  | .vmem => 11
  | .smem => 2
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x8192, .f32⟩
  | .hbm, ⟨4, _⟩ => ⟨S8192x512, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S8x512x256, .f32⟩
  | .local _ .smem, ⟨0, _⟩ => ⟨S136, .i32⟩
  | .local _ .smem, ⟨1, _⟩ => ⟨S136, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 136], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c3_i32 : BitVec 32 := 3#32
  let v2 : BitVec 32 := Scalar.addi c3_i32 arg0
  let c0_i32 : BitVec 32 := 0#32
  ![v1.toNat, v2.toNat]

def cc0_transform_4 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FoxRefIdeal.lean ====
abbrev S136 : Shape := ⟨1, ![136]⟩
abbrev S8192x1024 : Shape := ⟨2, ![8192, 1024]⟩
abbrev S8192x512 : Shape := ⟨2, ![8192, 512]⟩
abbrev S8192x8192 : Shape := ⟨2, ![8192, 8192]⟩
abbrev S8192x8x128 : Shape := ⟨3, ![8192, 8, 128]⟩
abbrev S8x8192x128 : Shape := ⟨3, ![8, 8192, 128]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8x8192 : Shape := ⟨2, ![8, 8192]⟩
abbrev S8x8192x1 : Shape := ⟨3, ![8, 8192, 1]⟩

abbrev nBuf : Space → Nat
  | .hbm => 61
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S8192x1024, .bf16⟩
  | .hbm, ⟨3, _⟩ => ⟨S8192x1024, .bf16⟩
  | .hbm, ⟨4, _⟩ => ⟨S8192x512, .bf16⟩
  | .hbm, ⟨5, _⟩ => ⟨S8192x8192, .f32⟩
  | .hbm, ⟨6, _⟩ => ⟨S8192x1024, .f32⟩
  | .hbm, ⟨7, _⟩ => ⟨S8192x8x128, .f32⟩
  | .hbm, ⟨8, _⟩ => ⟨S8x8192x128, .f32⟩
  | .hbm, ⟨9, _⟩ => ⟨S8192x1024, .f32⟩
  | .hbm, ⟨10, _⟩ => ⟨S8192x8x128, .f32⟩
  | .hbm, ⟨11, _⟩ => ⟨S8x8192x128, .f32⟩
  | .hbm, ⟨12, _⟩ => ⟨S8192x512, .f32⟩
  | .hbm, ⟨13, _⟩ => ⟨S8192x8x64, .f32⟩
  | .hbm, ⟨14, _⟩ => ⟨S8x8192x64, .f32⟩
  | .hbm, ⟨15, _⟩ => ⟨S8x8192x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x8192x8192, .f32⟩
  | .hbm, ⟨20, _⟩ => ⟨S8x8192x8192, .f32⟩
  | .hbm, ⟨21, _⟩ => ⟨S8192, .i32⟩
  | .hbm, ⟨22, _⟩ => ⟨S1x8192, .i32⟩
  | .hbm, ⟨23, _⟩ => ⟨S8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S8x8192x8192, .i1⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S8x8192x1, .f32⟩
  | .hbm, ⟨45, _⟩ => ⟨S8x8192x8192, .f32⟩
  | .hbm, ⟨46, _⟩ => ⟨S8x8192x8192, .f32⟩
  | .hbm, ⟨47, _⟩ => ⟨S8x8192x64, .f32⟩
  | .hbm, ⟨48, _⟩ => ⟨S8192x8x64, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .bf16⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Ffn.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== InProj.lean ====
abbrev S8192x2048 : Shape := ⟨2, ![8192, 2048]⟩
abbrev S2048 : Shape := ⟨1, ![2048]⟩
abbrev S2048x8192 : Shape := ⟨2, ![2048, 8192]⟩
abbrev S1x2048 : Shape := ⟨2, ![1, 2048]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .bf16⟩
  | .hbm, ⟨3, _⟩ => ⟨S1x2048, .f32⟩
  | .hbm, ⟨4, _⟩ => ⟨S8192x8192, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S8192x2048 : Shape := ⟨2, ![8192, 2048]⟩
abbrev S2048 : Shape := ⟨1, ![2048]⟩
abbrev S2048x8192 : Shape := ⟨2, ![2048, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8192 : Shape := ⟨2, ![8192, 8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x8192, .f32⟩
  | .hbm, ⟨20, _⟩ => ⟨S8192x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Merge.lean ====
abbrev S8192x2048 : Shape := ⟨2, ![8192, 2048]⟩
abbrev S2048 : Shape := ⟨1, ![2048]⟩
abbrev S8192x512 : Shape := ⟨2, ![8192, 512]⟩
abbrev S2048x8192 : Shape := ⟨2, ![2048, 8192]⟩
abbrev S4x2048 : Shape := ⟨2, ![4, 2048]⟩
abbrev S4x512x2048 : Shape := ⟨3, ![4, 512, 2048]⟩
abbrev S2048x2048 : Shape := ⟨2, ![2048, 2048]⟩
abbrev S1x2048 : Shape := ⟨2, ![1, 2048]⟩
abbrev S512x2048 : Shape := ⟨2, ![512, 2048]⟩
abbrev S512x512 : Shape := ⟨2, ![512, 512]⟩
abbrev S2048x512 : Shape := ⟨2, ![2048, 512]⟩
abbrev S4x512 : Shape := ⟨2, ![4, 512]⟩
abbrev S4x512x512 : Shape := ⟨3, ![4, 512, 512]⟩
abbrev S512 : Shape := ⟨1, ![512]⟩
abbrev S512x1 : Shape := ⟨2, ![512, 1]⟩
abbrev S1x512 : Shape := ⟨2, ![1, 512]⟩
abbrev S1x512x512 : Shape := ⟨3, ![1, 512, 512]⟩

abbrev nBuf : Space → Nat
  | .hbm => 12
  | .vmem => 28
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S2048x8192, .bf16⟩
  | .hbm, ⟨7, _⟩ => ⟨S4x2048, .f32⟩
  | .hbm, ⟨8, _⟩ => ⟨S4x512x2048, .bf16⟩
  | .hbm, ⟨9, _⟩ => ⟨S2048x2048, .bf16⟩
  | .hbm, ⟨10, _⟩ => ⟨S1x2048, .f32⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S4x512, .f32⟩
  | .local _ .vmem, ⟨20, _⟩ => ⟨S4x512, .f32⟩
  | .local _ .vmem, ⟨21, _⟩ => ⟨S4x512x512, .bf16⟩
  | .local _ .vmem, ⟨22, _⟩ => ⟨S4x512x512, .bf16⟩
  | .local _ .vmem, ⟨23, _⟩ => ⟨S512x2048, .bf16⟩
  | .local _ .vmem, ⟨24, _⟩ => ⟨S512x2048, .bf16⟩
  | .local _ .vmem, ⟨25, _⟩ => ⟨S512x2048, .f32⟩
  | .local _ .vmem, ⟨26, _⟩ => ⟨S512x2048, .f32⟩
  | .local _ .vmem, ⟨27, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S4x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S4x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== MergeRefIdeal.lean ====
abbrev S8192x2048 : Shape := ⟨2, ![8192, 2048]⟩
abbrev S2048 : Shape := ⟨1, ![2048]⟩
abbrev S8192x512 : Shape := ⟨2, ![8192, 512]⟩
abbrev S2048x8192 : Shape := ⟨2, ![2048, 8192]⟩
abbrev S4x2048 : Shape := ⟨2, ![4, 2048]⟩
abbrev S4x512x2048 : Shape := ⟨3, ![4, 512, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x8192x512 : Shape := ⟨3, ![1, 8192, 512]⟩
abbrev S4x8192x512 : Shape := ⟨3, ![4, 8192, 512]⟩
abbrev S4x8192x2048 : Shape := ⟨3, ![4, 8192, 2048]⟩
abbrev S2048x4x2048 : Shape := ⟨3, ![2048, 4, 2048]⟩
abbrev S4x2048x8192 : Shape := ⟨3, ![4, 2048, 8192]⟩
abbrev S4x1x2048 : Shape := ⟨3, ![4, 1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S2048x8192, .bf16⟩
  | .hbm, ⟨7, _⟩ => ⟨S4x2048, .f32⟩
  | .hbm, ⟨8, _⟩ => ⟨S4x512x2048, .bf16⟩
  | .hbm, ⟨9, _⟩ => ⟨S2048x2048, .bf16⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S1x8192x512, .f32⟩
  | .hbm, ⟨31, _⟩ => ⟨S1x8192x512, .f32⟩
  | .hbm, ⟨32, _⟩ => ⟨S1x8192x512, .f32⟩
  | .hbm, ⟨33, _⟩ => ⟨S1x8192x512, .f32⟩
  | .hbm, ⟨34, _⟩ => ⟨S4x8192x512, .f32⟩
  | .hbm, ⟨35, _⟩ => ⟨S4x512x2048, .f32⟩
  | .hbm, ⟨36, _⟩ => ⟨S4x8192x2048, .f32⟩
  | .hbm, ⟨37, _⟩ => ⟨S2048x8192, .f32⟩
  | .hbm, ⟨38, _⟩ => ⟨S2048x4x2048, .f32⟩
  | .hbm, ⟨39, _⟩ => ⟨S4x2048x8192, .f32⟩
  | .hbm, ⟨40, _⟩ => ⟨S4x8192x2048, .f32⟩
  | .hbm, ⟨41, _⟩ => ⟨S4x1x2048, .f32⟩
  | .hbm, ⟨42, _⟩ => ⟨S4x8192x2048, .f32⟩
  | .hbm, ⟨43, _⟩ => ⟨S4x8192x2048, .f32⟩
  | .hbm, ⟨44, _⟩ => ⟨S4x8192x2048, .f32⟩
  | .hbm, ⟨45, _⟩ => ⟨S4x8192x2048, .f32⟩
  | .hbm, ⟨46, _⟩ => ⟨S_, .f32⟩
  | .hbm, ⟨47, _⟩ => ⟨S4x8192x2048, .f32⟩
  | .hbm, ⟨48, _⟩ => ⟨S4x8192x2048, .f32⟩
  | .hbm, ⟨49, _⟩ => ⟨S_, .f32⟩
  | .hbm, ⟨50, _⟩ => ⟨S4x8192x2048, .f32⟩
  | .hbm, ⟨51, _⟩ => ⟨S4x8192x2048, .f32⟩
  | .hbm, ⟨52, _⟩ => ⟨S4x8192x2048, .f32⟩
  | .hbm, ⟨53, _⟩ => ⟨S_, .f32⟩
  | .hbm, ⟨54, _⟩ => ⟨S8192x2048, .f32⟩
  | .hbm, ⟨55, _⟩ => ⟨S2048x2048, .f32⟩
  | .hbm, ⟨56, _⟩ => ⟨S8192x2048, .f32⟩
  | .hbm, ⟨57, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Rope.lean ====
abbrev S8192x1 : Shape := ⟨2, ![8192, 1]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S64 : Shape := ⟨1, ![64]⟩
abbrev S1x64 : Shape := ⟨2, ![1, 64]⟩
abbrev S2x64 : Shape := ⟨2, ![2, 64]⟩
abbrev S8192x128 : Shape := ⟨2, ![8192, 128]⟩
abbrev S512x1 : Shape := ⟨2, ![512, 1]⟩
abbrev S512x128 : Shape := ⟨2, ![512, 128]⟩

abbrev nBuf : Space → Nat
  | .hbm => 31
  | .vmem => 8
  | .smem => 0
  | _ => 0

abbrev bufTy : (tb : Table) → Fin (tcTables nBuf tb) → BufTy
  | .hbm, ⟨0, _⟩ => ⟨S8192x1, .f32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S1x32, .f32⟩
  | .hbm, ⟨16, _⟩ => ⟨S4x32, .f32⟩
  | .hbm, ⟨17, _⟩ => ⟨S128, .f32⟩
  | .hbm, ⟨18, _⟩ => ⟨S1x128, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S64, .f32⟩
  | .hbm, ⟨25, _⟩ => ⟨S1x64, .f32⟩
  | .hbm, ⟨26, _⟩ => ⟨S2x64, .f32⟩
  | .hbm, ⟨27, _⟩ => ⟨S128, .f32⟩
  | .hbm, ⟨28, _⟩ => ⟨S1x128, .f32⟩
  | .hbm, ⟨29, _⟩ => ⟨S8192x128, .f32⟩
  | .hbm, ⟨30, _⟩ => ⟨S8192x128, .f32⟩
  | .local _ .vmem, ⟨0, _⟩ => ⟨S512x1, .f32⟩
  | .local _ .vmem, ⟨1, _⟩ => ⟨S512x1, .f32⟩
  | .local _ .vmem, ⟨2, _⟩ => ⟨S1x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeRefIdeal.lean ====
abbrev S8192x1 : Shape := ⟨2, ![8192, 1]⟩
abbrev S32 : Shape := ⟨1, ![32]⟩
abbrev S_ : Shape := ⟨0, ![]⟩
abbrev S1x32 : Shape := ⟨2, ![1, 32]⟩
abbrev S8192x32 : Shape := ⟨2, ![8192, 32]⟩
abbrev S8192x128 : Shape := ⟨2, ![8192, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S1x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x128, .f32⟩
  | .hbm, ⟨22, _⟩ => ⟨S8192x32, .f32⟩
  | .hbm, ⟨23, _⟩ => ⟨S8192x32, .f32⟩
  | .hbm, ⟨24, _⟩ => ⟨S8192x128, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Weight.lean ====
abbrev S4x2048x5632 : Shape := ⟨3, ![4, 2048, 5632]⟩
abbrev S2048x5632 : Shape := ⟨2, ![2048, 5632]⟩
abbrev S1x128x5632 : Shape := ⟨3, ![1, 128, 5632]⟩
abbrev S128x5632 : Shape := ⟨2, ![128, 5632]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x5632, .f32⟩
  | .hbm, ⟨1, _⟩ => ⟨S2048x5632, .bf16⟩
  | .local _ .vmem, ⟨0, _⟩ => ⟨S1x128x5632, .f32⟩
  | .local _ .vmem, ⟨1, _⟩ => ⟨S1x128x5632, .f32⟩
  | .local _ .vmem, ⟨2, _⟩ => ⟨S128x5632, .bf16⟩
  | .local _ .vmem, ⟨3, _⟩ => ⟨S128x5632, .bf16⟩
  | _, _ => ⟨S4x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WeightRefIdeal.lean ====
abbrev S4x2048x5632 : Shape := ⟨3, ![4, 2048, 5632]⟩
abbrev S1x2048x5632 : Shape := ⟨3, ![1, 2048, 5632]⟩
abbrev S2048x5632 : Shape := ⟨2, ![2048, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x5632, .f32⟩
  | .hbm, ⟨1, _⟩ => ⟨S1x2048x5632, .f32⟩
  | .hbm, ⟨2, _⟩ => ⟨S2048x5632, .f32⟩
  | .hbm, ⟨3, _⟩ => ⟨S2048x5632, .bf16⟩
  | _, _ => ⟨S4x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Branch.lean ====
abbrev S4x4x512x2048 : Shape := ⟨4, ![4, 4, 512, 2048]⟩
abbrev S4x512x2048 : Shape := ⟨3, ![4, 512, 2048]⟩
abbrev S1x1x512x2048 : Shape := ⟨4, ![1, 1, 512, 2048]⟩
abbrev S1x512x2048 : Shape := ⟨3, ![1, 512, 2048]⟩
abbrev S512x2048 : Shape := ⟨2, ![512, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x4x512x2048, .f32⟩
  | .hbm, ⟨1, _⟩ => ⟨S4x512x2048, .bf16⟩
  | .local _ .vmem, ⟨0, _⟩ => ⟨S1x1x512x2048, .f32⟩
  | .local _ .vmem, ⟨1, _⟩ => ⟨S1x1x512x2048, .f32⟩
  | .local _ .vmem, ⟨2, _⟩ => ⟨S1x512x2048, .bf16⟩
  | .local _ .vmem, ⟨3, _⟩ => ⟨S1x512x2048, .bf16⟩
  | _, _ => ⟨S4x4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BranchRefIdeal.lean ====
abbrev S4x4x512x2048 : Shape := ⟨4, ![4, 4, 512, 2048]⟩
abbrev S1x4x512x2048 : Shape := ⟨4, ![1, 4, 512, 2048]⟩
abbrev S4x512x2048 : Shape := ⟨3, ![4, 512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x4x512x2048, .f32⟩
  | .hbm, ⟨1, _⟩ => ⟨S1x4x512x2048, .f32⟩
  | .hbm, ⟨2, _⟩ => ⟨S4x512x2048, .f32⟩
  | .hbm, ⟨3, _⟩ => ⟨S4x512x2048, .bf16⟩
  | _, _ => ⟨S4x4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== GateWeight.lean ====
abbrev S4x2048x4x2048 : Shape := ⟨4, ![4, 2048, 4, 2048]⟩
abbrev S2048x8192 : Shape := ⟨2, ![2048, 8192]⟩
abbrev S1x64x4x2048 : Shape := ⟨4, ![1, 64, 4, 2048]⟩
abbrev S64x8192 : Shape := ⟨2, ![64, 8192]⟩
abbrev S1x64x1x2048 : Shape := ⟨4, ![1, 64, 1, 2048]⟩
abbrev S64x2048 : Shape := ⟨2, ![64, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x4x2048, .f32⟩
  | .hbm, ⟨1, _⟩ => ⟨S2048x8192, .bf16⟩
  | .local _ .vmem, ⟨0, _⟩ => ⟨S1x64x4x2048, .f32⟩
  | .local _ .vmem, ⟨1, _⟩ => ⟨S1x64x4x2048, .f32⟩
  | .local _ .vmem, ⟨2, _⟩ => ⟨S64x8192, .bf16⟩
  | .local _ .vmem, ⟨3, _⟩ => ⟨S64x8192, .bf16⟩
  | _, _ => ⟨S4x2048x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x64x4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== GateWeightRefIdeal.lean ====
abbrev S4x2048x4x2048 : Shape := ⟨4, ![4, 2048, 4, 2048]⟩
abbrev S1x2048x4x2048 : Shape := ⟨4, ![1, 2048, 4, 2048]⟩
abbrev S2048x4x2048 : Shape := ⟨3, ![2048, 4, 2048]⟩
abbrev S2048x8192 : Shape := ⟨2, ![2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x4x2048, .f32⟩
  | .hbm, ⟨1, _⟩ => ⟨S1x2048x4x2048, .f32⟩
  | .hbm, ⟨2, _⟩ => ⟨S2048x4x2048, .f32⟩
  | .hbm, ⟨3, _⟩ => ⟨S2048x8192, .f32⟩
  | .hbm, ⟨4, _⟩ => ⟨S2048x8192, .bf16⟩
  | _, _ => ⟨S4x2048x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== InWeight.lean ====
abbrev S4x2048x7960 : Shape := ⟨3, ![4, 2048, 7960]⟩
abbrev S2048x8192 : Shape := ⟨2, ![2048, 8192]⟩
abbrev S1x256x7960 : Shape := ⟨3, ![1, 256, 7960]⟩
abbrev S256x8192 : Shape := ⟨2, ![256, 8192]⟩
abbrev S1x256x2048 : Shape := ⟨3, ![1, 256, 2048]⟩
abbrev S256x2048 : Shape := ⟨2, ![256, 2048]⟩
abbrev S1x256x1536 : Shape := ⟨3, ![1, 256, 1536]⟩
abbrev S256x1536 : Shape := ⟨2, ![256, 1536]⟩
abbrev S1x256x4096 : Shape := ⟨3, ![1, 256, 4096]⟩
abbrev S256x4096 : Shape := ⟨2, ![256, 4096]⟩
abbrev S1x256x256 : Shape := ⟨3, ![1, 256, 256]⟩
abbrev S256x256 : Shape := ⟨2, ![256, 256]⟩
abbrev S1x256x8 : Shape := ⟨3, ![1, 256, 8]⟩
abbrev S256x8 : Shape := ⟨2, ![256, 8]⟩
abbrev S1x256x16 : Shape := ⟨3, ![1, 256, 16]⟩
abbrev S256x16 : Shape := ⟨2, ![256, 16]⟩
abbrev S256x232 : Shape := ⟨2, ![256, 232]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x7960, .f32⟩
  | .hbm, ⟨1, _⟩ => ⟨S2048x8192, .bf16⟩
  | .local _ .vmem, ⟨0, _⟩ => ⟨S1x256x7960, .f32⟩
  | .local _ .vmem, ⟨1, _⟩ => ⟨S1x256x7960, .f32⟩
  | .local _ .vmem, ⟨2, _⟩ => ⟨S256x8192, .bf16⟩
  | .local _ .vmem, ⟨3, _⟩ => ⟨S256x8192, .bf16⟩
  | _, _ => ⟨S4x2048x7960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x7960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== InWeightRefIdeal.lean ====
abbrev S4x2048x7960 : Shape := ⟨3, ![4, 2048, 7960]⟩
abbrev S1x2048x7960 : Shape := ⟨3, ![1, 2048, 7960]⟩
abbrev S2048x7960 : Shape := ⟨2, ![2048, 7960]⟩
abbrev S2048x2048 : Shape := ⟨2, ![2048, 2048]⟩
abbrev S2048x8 : Shape := ⟨2, ![2048, 8]⟩
abbrev S2048x1536 : Shape := ⟨2, ![2048, 1536]⟩
abbrev S2048x256 : Shape := ⟨2, ![2048, 256]⟩
abbrev S_ : Shape := ⟨0, ![]⟩
abbrev S2048x232 : Shape := ⟨2, ![2048, 232]⟩
abbrev S2048x8192 : Shape := ⟨2, ![2048, 8192]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x7960, .f32⟩
  | .hbm, ⟨1, _⟩ => ⟨S1x2048x7960, .f32⟩
  | .hbm, ⟨2, _⟩ => ⟨S2048x7960, .f32⟩
  | .hbm, ⟨3, _⟩ => ⟨S2048x7960, .bf16⟩
  | .hbm, ⟨4, _⟩ => ⟨S2048x2048, .bf16⟩
  | .hbm, ⟨5, _⟩ => ⟨S2048x8, .bf16⟩
  | .hbm, ⟨6, _⟩ => ⟨S2048x1536, .bf16⟩
  | .hbm, ⟨7, _⟩ => ⟨S2048x256, .bf16⟩
  | .hbm, ⟨8, _⟩ => ⟨S2048x2048, .bf16⟩
  | .hbm, ⟨9, _⟩ => ⟨S2048x2048, .bf16⟩
  | .hbm, ⟨10, _⟩ => ⟨S2048x8, .bf16⟩
  | .hbm, ⟨11, _⟩ => ⟨S2048x8, .bf16⟩
  | .hbm, ⟨12, _⟩ => ⟨S_, .bf16⟩
  | .hbm, ⟨13, _⟩ => ⟨S2048x232, .bf16⟩
  | .hbm, ⟨14, _⟩ => ⟨S2048x8192, .bf16⟩
  | _, _ => ⟨S4x2048x7960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Proof.Norm.lean ====
/-
  THE ROOT-MEAN-SQUARE NORM of a row, as one extended-real formula, shared by the three programs of this problem: a
  row divided by the square root of its mean square plus a small constant, times a gain. Also the two forms of the
  logistic function that the programs print.
-/
module

public import Idealize.ShloMosaic.Lib.Pointwise
public import Idealize.ShloMosaic.PureOps.Ideal.Laws

@[expose] public section

noncomputable section

namespace Cert.Layer

open Idealize.ShloMosaic

/-- Element `k` of the normed row `x` with gain `g`. The two constants are the printed words: 2048 and 1e-6. -/
def rmsn (x g : Fin 2048 → EReal) (k : Fin 2048) : EReal :=
  x k * Ideal.rsqrt (Ideal.div (∑ q : Fin 2048, x q * x q) (Ideal.ofBits .f32 0x45000000#32) + Ideal.ofBits .f32 0x358637BD#32) * g k

/-- Row `r` of the normed array `X` with gain vector `G`. -/
def normed (X : FVec Ideal ⟨2, ![8192, 2048]⟩ .f32) (G : FVec Ideal ⟨1, ![2048]⟩ .f32) (r : Fin 8192) (k : Fin 2048) : EReal :=
  rmsn (fun q => X (ix2 r q)) (fun q => G (ix1 q)) k

/-- The logistic function as both sides print it: one over one plus the exponential of the negated argument. -/
def sigm (x : EReal) : EReal := Ideal.div 1 (1 + Ideal.exp (-x))

/-- The printed word of one is the number one. -/
theorem word_one : Ideal.ofBits .f32 0x3F800000#32 = 1 := by
  simp [Ideal.ofBits, Ideal.ieee, -EReal.coe_mul]; norm_num

/-- The gated unit with its factor one half, from its two pre-activations: half of `a` times the logistic of `a`, times `b`. -/
def gated (a b : EReal) : EReal := Ideal.ofBits .f32 0x3F000000#32 * (a * sigm a) * b

/-- One half goes into a finite sum: the factor is a nonnegative real, so this holds at the infinities too. -/
theorem half_sum {ι : Type} [Fintype ι] (f : ι → EReal) :
    Ideal.ofBits .f32 0x3F000000#32 * ∑ i, f i = ∑ i, Ideal.ofBits .f32 0x3F000000#32 * f i := by
  have e : Ideal.ofBits .f32 0x3F000000#32 = ((1 / 2 : ℝ) : EReal) := by
    simp [Ideal.ofBits, Ideal.ieee, -EReal.coe_mul]; norm_num
  rw [e]
  classical
  induction (Finset.univ : Finset ι) using Finset.induction_on with
  | empty => simp
  | insert a t ha ih =>
    rw [Finset.sum_insert ha, Finset.sum_insert ha, ← ih]
    exact EReal.left_distrib_of_nonneg_of_ne_top (by exact_mod_cast (by norm_num : (0 : ℝ) ≤ 1 / 2)) (EReal.coe_ne_top _) _ _

/-- Two indices of a rank-two array with equal coordinates are equal. -/
theorem idx2_eq {a b : ℕ} {i j : (⟨2, ![a, b]⟩ : Shape).Idx} (h0 : (i 0).val = (j 0).val) (h1 : (i 1).val = (j 1).val) : i = j :=
  funext fun d => Fin.ext (match d with | ⟨0, _⟩ => h0 | ⟨1, _⟩ => h1)

/-- The zero corner of a rank-two block, as the loads and stores print it. -/
theorem corner : (![0, 0] : Fin 2 → Nat) = fun _ => 0 := funext fun a => by fin_cases a <;> rfl

end Cert.Layer

end
-- ==== Proof.Fox.Step.lean ====
/-
  WHAT ONE GRID POINT OF THE FORGETTING ATTENTION COMPUTES, at an index. A head's accumulator slab gains, in its row `r`
  and column `l`, the sum over the key block's rows of a weight times either a value of the head's pair (the first 128
  columns) or one (the last 128 columns, which so add up the weights). The weight is two to the power of the query row
  times the key row; on the diagonal block it is zero where the key comes after the query. The output block divides the
  two halves and multiplies by the logistic of the gate.
-/
module

public import proofs.«01_k».proof.Proof.Gen.FoxIdeal.Flash.Runs
public import proofs.«01_k».proof.Proof.Norm
public import Idealize.ShloMosaic.Lib.Exec
public import Idealize.ShloMosaic.Lib.Pipeline.ReadBack

@[expose] public section

noncomputable section

namespace Cert.FoxIdeal.Own

open Cert.FoxIdeal Cert.FoxIdeal.Gen Cert.Layer Idealize.ShloMosaic Idealize.ShloMosaic.TcCoe

/-- The printed word of one in the values' type is the number one. -/
theorem half_word_one : Ideal.ofBits .bf16 0x3F80#16 = 1 := by
  simp [Ideal.ofBits, Ideal.ieee, -EReal.coe_mul]; norm_num

/-- A column of the extended value row: a value in the first 128 columns, one in the others. -/
def ext (f : Fin 128 → EReal) (l : Fin 256) : EReal := if h : l.val < 128 then f ⟨l.val, h⟩ else 1

/-- Comparing two row numbers as words is comparing them. -/
theorem sle_word (x r : Fin 512) :
    IntOp.cmpi .sle (BitVec.ofNat 32 x.val) (BitVec.ofNat 32 r.val) = BitVec.ofBool (decide (x.val ≤ r.val)) := by
  have hx : (BitVec.ofNat 32 x.val).toInt = x.val := by
    rw [BitVec.toInt_eq_toNat_of_lt] <;> simp <;> omega
  have hr : (BitVec.ofNat 32 r.val).toInt = r.val := by
    rw [BitVec.toInt_eq_toNat_of_lt] <;> simp <;> omega
  simp [IntOp.cmpi, BitVec.sle, hx, hr]

/-- The column test of the output block as a word. -/
theorem slt_word : ∀ l : Fin 128, IntOp.cmpi .slt (BitVec.ofNat 32 l.val) 64#32 = BitVec.ofBool (decide (l.val < 64)) := by
  decide

section
variable (v q k : Vec Ideal S512x128 .bf16) (a : Vec Ideal S1x512x256 .f32)

/-- One head's step below the diagonal, at an index. -/
theorem plain_apply (r : Fin 512) (l : Fin 256) : k0_pay6 v q k a (ix3 0 r l) = a (ix3 0 r l)
    + ∑ s : Fin 512, Ideal.exp2 (∑ d : Fin 128, q (ix2 r d) * k (ix2 s d)) * ext (fun e => v (ix2 s e)) l := by
  unfold k0_pay6 k0_pay5 ext
  pointwise [dot_S512x128_S512x128_S512x512_1_1_0_0_n_n, dot_S512x512_S512x256_S512x256_1_0_0_1_n_n, half_word_one]
  rfl

/-- One head's step on the diagonal, at an index: the key may not come after the query. -/
theorem masked_apply (r : Fin 512) (l : Fin 256) : k0_pay16 v q k a (ix3 0 r l) = a (ix3 0 r l)
    + ∑ s : Fin 512, (if s.val ≤ r.val then Ideal.exp2 (∑ d : Fin 128, q (ix2 r d) * k (ix2 s d)) else 0)
      * ext (fun e => v (ix2 s e)) l := by
  unfold k0_pay16 k0_pay15 ext
  pointwise [dot_S512x128_S512x128_S512x512_1_1_0_0_n_n, dot_S512x512_S512x256_S512x256_1_0_0_1_n_n, half_word_one]
  refine congrArg _ (Finset.sum_congr rfl fun x _ => ?_)
  rw [sle_word x r]
  by_cases h : x.val ≤ r.val
  · simp only [h, decide_true, if_true]; rfl
  · simp only [h, decide_false, if_false, zero_mul]; rfl
end

section
variable (A0 A1 D0 D1 : Vec Ideal S1x512x128 .f32) (og : Vec Ideal S512x128 .f32)

/-- The output block's columns of one pair of heads, at an index: the first 64 columns belong to the first head. -/
theorem gate_apply (r : Fin 512) (l : Fin 128) : k0_pay39 k0_pay30 A0 A1 D0 D1 og (ix2 r l) =
    Ideal.div (if l.val < 64 then A0 (ix3 0 r l) else A1 (ix3 0 r l)) (if l.val < 64 then D0 (ix3 0 r l) else D1 (ix3 0 r l))
      * sigm (og (ix2 r l)) := by
  unfold k0_pay39 k0_pay30 sigm
  pointwise [word_one, zero_sub]
  rw [slt_word l]
  by_cases h : l.val < 64
  · simp only [h, decide_true, if_true]; rfl
  · simp only [h, decide_false, if_false]; rfl
end

/-! The payloads of the other heads are the same functions. -/
theorem pay7 : @k0_pay7 Ideal _ = k0_pay6 := rfl
theorem pay9 (v q k a) : k0_pay9 (F := Ideal) v (FloatOps.ofBits FTy.bf16 16256#16) q k a = k0_pay6 v q k a := rfl
theorem pay10 (v q k a) : k0_pay10 (F := Ideal) v (FloatOps.ofBits FTy.bf16 16256#16) q k a = k0_pay6 v q k a := rfl
theorem pay12 (v q k a) : k0_pay12 (F := Ideal) (k0_pay11 v) q k a = k0_pay6 v q k a := rfl
theorem pay13 (v q k a) : k0_pay13 (F := Ideal) (k0_pay11 v) q k a = k0_pay6 v q k a := rfl
theorem pay2 (v q k a) : k0_pay2 (F := Ideal) (k0_pay14 v) q k a = k0_pay6 v q k a := rfl
theorem pay3 (v q k a) : k0_pay3 (F := Ideal) (k0_pay14 v) q k a = k0_pay6 v q k a := rfl
theorem pay19 (v q k a) : k0_pay19 (F := Ideal) (k0_pay17 a) (k0_pay18 v q k) = k0_pay16 v q k a := rfl
theorem pay21 : @k0_pay21 Ideal _ = k0_pay16 := rfl
theorem pay23 (v q k a) : k0_pay23 (F := Ideal) (k0_pay20 v) (k0_pay22 q k) a = k0_pay16 v q k a := rfl
theorem pay25 : @k0_pay25 Ideal _ = k0_pay16 := rfl
theorem pay26 (v q k a) : k0_pay26 (F := Ideal) (k0_pay24 v) q k (constant S512x512 FTy.f32 0#32) a = k0_pay16 v q k a := rfl
theorem pay28 : @k0_pay28 Ideal _ = k0_pay16 := rfl
theorem pay29 (v q k a) : k0_pay29 (F := Ideal) (k0_pay27 v) q k a = k0_pay16 v q k a := rfl
theorem pay4 (A0 A1 D0 D1 og) : k0_pay4 (F := Ideal) k0_pay30 (k0_pay40 A0) A1 D0 D1 og = k0_pay39 k0_pay30 A0 A1 D0 D1 og := rfl
theorem pay38 (A0 A1 D0 D1 og) : k0_pay38 (F := Ideal) (k0_pay36 k0_pay30 A0 A1 D0 D1) (k0_pay37 og) (FloatOps.ofBits FTy.f32 1065353216#32)
    = k0_pay39 k0_pay30 A0 A1 D0 D1 og := rfl
theorem pay35 (A0 A1 D0 D1 og) : k0_pay35 (F := Ideal) (k0_pay31 A0 A1) (k0_pay32 D0) (k0_pay33 D1) k0_pay34 og
    = k0_pay39 k0_pay30 A0 A1 D0 D1 og := rfl

/-! ## The step on all eight slabs -/

/-- The weight of a query row for a key row under one head, before the mask. -/
def wt (x0 : S512x1024.Idx → EReal) (x1 : S512x1024.Idx → EReal) (h : Fin 8) (r s : Fin 512) : EReal :=
  Ideal.exp2 (∑ d : Fin 128, x0 (ix2 r ⟨128 * h.val + d.val, by omega⟩) * x1 (ix2 s ⟨128 * h.val + d.val, by omega⟩))

/-- The weight on the diagonal block. -/
def wtM (x0 : S512x1024.Idx → EReal) (x1 : S512x1024.Idx → EReal) (h : Fin 8) (r s : Fin 512) : EReal :=
  if s.val ≤ r.val then wt x0 x1 h r s else 0

/-- The values of a head's pair, a row of the value block extended by ones. -/
def vals (x2 : S512x512.Idx → EReal) (h : Fin 8) (s : Fin 512) (l : Fin 256) : EReal :=
  ext (fun e => x2 (ix2 s ⟨128 * (h.val / 2) + e.val, by omega⟩)) l

/-- What a point adds to a slab at an index. -/
def gain (w : Fin 8 → Fin 512 → Fin 512 → EReal) (x2 : S512x512.Idx → EReal) (h : Fin 8) (r : Fin 512) (l : Fin 256) : EReal :=
  ∑ s : Fin 512, w h r s * vals x2 h s l

/-- The eight slabs after a point. -/
def slab (w : Fin 8 → Fin 512 → Fin 512 → EReal) (x2 : S512x512.Idx → EReal) (prev : S8x512x256.Idx → EReal) : S8x512x256.Idx → EReal :=
  fun y => prev y + gain w x2 (y 0) (y 1) (y 2)

/-- Indices of the slabs are equal when their three coordinates are. -/
theorem idx3_eq {a b c : ℕ} {i j : (⟨3, ![a, b, c]⟩ : Shape).Idx} (h0 : (i 0).val = (j 0).val) (h1 : (i 1).val = (j 1).val)
    (h2 : (i 2).val = (j 2).val) : i = j :=
  funext fun d => Fin.ext (match d with | ⟨0, _⟩ => h0 | ⟨1, _⟩ => h1 | ⟨2, _⟩ => h2)

/-- A head's columns of a block, at an index. -/
theorem cols_apply {n : ℕ} {e : EltTy} (f : Vec Ideal ⟨2, ![512, n]⟩ e) (o : ℕ)
    (io : ∀ a, (![0, o] : Fin 2 → ℕ) a + S512x128.size a ≤ (⟨2, ![512, n]⟩ : Shape).size a) (r : Fin 512) (d : Fin 128) (ho : o + d.val < n) :
    View.ld (Val := Elt Ideal) (e' := e) f (Rect.unit (s := ⟨2, ![512, n]⟩) ![0, o] S512x128.size io) (ix2 r d) = f (ix2 r ⟨o + d.val, ho⟩) := by
  refine congrArg f (idx2_eq ?_ ?_)
  · show 0 + 1 * r.val = r.val
    omega
  · show o + 1 * d.val = o + d.val
    omega

/-- Where a block of a slab lies among the slabs. -/
theorem slab_emb (h : Fin 8) {n : ℕ} (o : ℕ) (ia : ∀ a, (![h.val, 0, o] : Fin 3 → ℕ) a + (⟨3, ![1, 512, n]⟩ : Shape).size a ≤ S8x512x256.size a)
    (r : Fin 512) (l : Fin n) (ho : o + l.val < 256) :
    (Rect.unit (s := S8x512x256) ![h.val, 0, o] (⟨3, ![1, 512, n]⟩ : Shape).size ia).emb (ix3 0 r l) = ix3 h r ⟨o + l.val, ho⟩ := by
  refine idx3_eq ?_ ?_ ?_
  · show h.val + 1 * 0 = h.val
    omega
  · show 0 + 1 * r.val = r.val
    omega
  · show o + 1 * l.val = o + l.val
    omega

section
variable (x0 x1 : S512x1024.Idx → EReal) (x2 : S512x512.Idx → EReal) (prev : S8x512x256.Idx → EReal) (h : Fin 8)
  (iq : ∀ a, (![0, 128 * h.val] : Fin 2 → ℕ) a + S512x128.size a ≤ S512x1024.size a)
  (iv : ∀ a, (![0, 128 * (h.val / 2)] : Fin 2 → ℕ) a + S512x128.size a ≤ S512x512.size a)
  (ia : ∀ a, (![h.val, 0, 0] : Fin 3 → ℕ) a + S1x512x256.size a ≤ S8x512x256.size a) (x : S1x512x256.Idx)

/-- The weight, read from the loaded columns. -/
theorem wt_read (r s : Fin 512) :
    Ideal.exp2 (∑ d : Fin 128, View.ld (Val := Elt Ideal) (e' := .bf16) x0 (Rect.unit (s := S512x1024) ![0, 128 * h.val] S512x128.size iq) (ix2 r d)
      * View.ld (Val := Elt Ideal) (e' := .bf16) x1 (Rect.unit (s := S512x1024) ![0, 128 * h.val] S512x128.size iq) (ix2 s d)) = wt x0 x1 h r s :=
  congrArg Ideal.exp2 (Finset.sum_congr rfl fun d _ => congrArg₂ (· * ·) (cols_apply (e := .bf16) x0 (128 * h.val) iq r d (by omega))
    (cols_apply (e := .bf16) x1 (128 * h.val) iq s d (by omega)))

/-- The extended value row, read from the loaded columns. -/
theorem vals_read (s : Fin 512) (l : Fin 256) :
    ext (fun e => View.ld (Val := Elt Ideal) (e' := .bf16) x2 (Rect.unit (s := S512x512) ![0, 128 * (h.val / 2)] S512x128.size iv) (ix2 s e)) l
      = vals x2 h s l :=
  congrArg (ext · l) (funext fun e => cols_apply (e := .bf16) x2 (128 * (h.val / 2)) iv s e (by omega))

/-- One slab's block below the diagonal. -/
theorem plain_slot :
    k0_pay6 (F := Ideal) (View.ld x2 (Rect.unit (s := S512x512) ![0, 128 * (h.val / 2)] S512x128.size iv))
      (View.ld x0 (Rect.unit (s := S512x1024) ![0, 128 * h.val] S512x128.size iq))
      (View.ld x1 (Rect.unit (s := S512x1024) ![0, 128 * h.val] S512x128.size iq))
      (View.ld prev (Rect.unit (s := S8x512x256) ![h.val, 0, 0] S1x512x256.size ia)) x
      = slab (wt x0 x1) x2 prev ((Rect.unit (s := S8x512x256) ![h.val, 0, 0] S1x512x256.size ia).emb x) := by
  obtain ⟨z, r, l, rfl⟩ : ∃ (z : Fin 1) (r : Fin 512) (l : Fin 256), x = ix3 z r l := ⟨_, _, _, eq_ix3 x⟩
  obtain rfl : z = 0 := Subsingleton.elim _ _
  rw [plain_apply, slab_emb h 0 ia r l (by omega)]
  refine congrArg₂ (· + ·) (congrArg prev ((slab_emb h 0 ia r l (by omega)))) (Finset.sum_congr rfl fun s _ => ?_)
  have e : (⟨0 + l.val, by omega⟩ : Fin 256) = l := Fin.ext (by simp)
  rw [wt_read x0 x1 h iq r s, vals_read x2 h iv s l]
  show _ = wt x0 x1 h r s * vals x2 h s ⟨0 + l.val, by omega⟩
  rw [e]

/-- One slab's block on the diagonal. -/
theorem masked_slot :
    k0_pay16 (F := Ideal) (View.ld x2 (Rect.unit (s := S512x512) ![0, 128 * (h.val / 2)] S512x128.size iv))
      (View.ld x0 (Rect.unit (s := S512x1024) ![0, 128 * h.val] S512x128.size iq))
      (View.ld x1 (Rect.unit (s := S512x1024) ![0, 128 * h.val] S512x128.size iq))
      (View.ld prev (Rect.unit (s := S8x512x256) ![h.val, 0, 0] S1x512x256.size ia)) x
      = slab (wtM x0 x1) x2 prev ((Rect.unit (s := S8x512x256) ![h.val, 0, 0] S1x512x256.size ia).emb x) := by
  obtain ⟨z, r, l, rfl⟩ : ∃ (z : Fin 1) (r : Fin 512) (l : Fin 256), x = ix3 z r l := ⟨_, _, _, eq_ix3 x⟩
  obtain rfl : z = 0 := Subsingleton.elim _ _
  rw [masked_apply, slab_emb h 0 ia r l (by omega)]
  refine congrArg₂ (· + ·) (congrArg prev ((slab_emb h 0 ia r l (by omega)))) (Finset.sum_congr rfl fun s _ => ?_)
  have e : (⟨0 + l.val, by omega⟩ : Fin 256) = l := Fin.ext (by simp)
  rw [wt_read x0 x1 h iq r s, vals_read x2 h iv s l]
  show _ = wtM x0 x1 h r s * vals x2 h s ⟨0 + l.val, by omega⟩
  rw [e]; rfl
end

/-- Eight stores of whole slabs, over anything, leave the function they are blocks of. -/
theorem canon_slabs (G : S8x512x256.Idx → EReal) (p : Fin 8 → S1x512x256.Idx → EReal)
    (ia : ∀ h : Fin 8, ∀ a, (![h.val, 0, 0] : Fin 3 → ℕ) a + S1x512x256.size a ≤ S8x512x256.size a)
    (hp : ∀ h x, p h x = G ((Rect.unit (s := S8x512x256) ![h.val, 0, 0] S1x512x256.size (ia h)).emb x))
    (L : List (View.Piece (Elt Ideal) S8x512x256 .f32)) (P : List (View.Piece (Elt Ideal) S8x512x256 .f32))
    (hP : P = [⟨Rect.unit ![((7 : Fin 8) : ℕ), 0, 0] S1x512x256.size (ia 7), p 7⟩, ⟨Rect.unit ![((6 : Fin 8) : ℕ), 0, 0] S1x512x256.size (ia 6), p 6⟩,
      ⟨Rect.unit ![((5 : Fin 8) : ℕ), 0, 0] S1x512x256.size (ia 5), p 5⟩, ⟨Rect.unit ![((4 : Fin 8) : ℕ), 0, 0] S1x512x256.size (ia 4), p 4⟩,
      ⟨Rect.unit ![((3 : Fin 8) : ℕ), 0, 0] S1x512x256.size (ia 3), p 3⟩, ⟨Rect.unit ![((2 : Fin 8) : ℕ), 0, 0] S1x512x256.size (ia 2), p 2⟩,
      ⟨Rect.unit ![((1 : Fin 8) : ℕ), 0, 0] S1x512x256.size (ia 1), p 1⟩, ⟨Rect.unit ![((0 : Fin 8) : ℕ), 0, 0] S1x512x256.size (ia 0), p 0⟩]) :
    View.canon (P ++ L) = G := by
  funext y
  obtain ⟨h, r, l, rfl⟩ : ∃ (h : Fin 8) (r : Fin 512) (l : Fin 256), y = ix3 h r l := ⟨_, _, _, eq_ix3 y⟩
  have e : (⟨0 + l.val, by omega⟩ : Fin 256) = l := Fin.ext (by simp)
  have hm : ∀ h : Fin 8, (⟨Rect.unit ![h.val, 0, 0] S1x512x256.size (ia h), p h⟩ : View.Piece (Elt Ideal) S8x512x256 .f32) ∈ P := by
    intro h; subst hP; fin_cases h <;> simp
  refine View.canon_append_of_pieces G L P ?_ _ ⟨_, hm h, ?_⟩
  · subst hP
    intro q hq
    simp only [List.mem_cons, List.not_mem_nil, or_false] at hq
    rcases hq with rfl | rfl | rfl | rfl | rfl | rfl | rfl | rfl <;> exact hp _
  · have := (slab_emb h 0 (ia h) r l (by omega))
    rw [e] at this
    rw [← this]
    exact LoadRect.idx_mem _ _

/-! ## The output block -/

/-- The output block: the head of a column is the column over 64, its slab's first half holds the column, its second half the sum of weights. -/
def outBlk (G : S8x512x256.Idx → EReal) (x3 : S512x512.Idx → EReal) : S512x512.Idx → EReal := fun y =>
  Ideal.div (G (ix3 ⟨(y 1).val / 64, by have : (y 1).val < 512 := (y 1).isLt; omega⟩ (y 0) ⟨(y 1).val % 128, by omega⟩))
    (G (ix3 ⟨(y 1).val / 64, by have : (y 1).val < 512 := (y 1).isLt; omega⟩ (y 0) ⟨128 + (y 1).val % 128, by omega⟩)) * sigm (x3 y)

/-- One pair's columns of the output block. -/
theorem out_slot (G : S8x512x256.Idx → EReal) (x3 : S512x512.Idx → EReal) (p : Fin 4)
    (i0 : ∀ a, (![2 * p.val, 0, 0] : Fin 3 → ℕ) a + S1x512x128.size a ≤ S8x512x256.size a)
    (i1 : ∀ a, (![2 * p.val + 1, 0, 0] : Fin 3 → ℕ) a + S1x512x128.size a ≤ S8x512x256.size a)
    (d0 : ∀ a, (![2 * p.val, 0, 128] : Fin 3 → ℕ) a + S1x512x128.size a ≤ S8x512x256.size a)
    (d1 : ∀ a, (![2 * p.val + 1, 0, 128] : Fin 3 → ℕ) a + S1x512x128.size a ≤ S8x512x256.size a)
    (io : ∀ a, (![0, 128 * p.val] : Fin 2 → ℕ) a + S512x128.size a ≤ S512x512.size a) (x : S512x128.Idx) :
    k0_pay39 (F := Ideal) k0_pay30
      (fun j => G ((Rect.unit (s := S8x512x256) ![2 * p.val, 0, 0] S1x512x128.size i0).toLoadRect.idx j))
      (fun j => G ((Rect.unit (s := S8x512x256) ![2 * p.val + 1, 0, 0] S1x512x128.size i1).toLoadRect.idx j))
      (fun j => G ((Rect.unit (s := S8x512x256) ![2 * p.val, 0, 128] S1x512x128.size d0).toLoadRect.idx j))
      (fun j => G ((Rect.unit (s := S8x512x256) ![2 * p.val + 1, 0, 128] S1x512x128.size d1).toLoadRect.idx j))
      (View.ld (Val := Elt Ideal) (e' := .f32) x3 (Rect.unit (s := S512x512) ![0, 128 * p.val] S512x128.size io)) x
      = outBlk G x3 ((Rect.unit (s := S512x512) ![0, 128 * p.val] S512x128.size io).emb x) := by
  obtain ⟨r, l, rfl⟩ : ∃ (r : Fin 512) (l : Fin 128), x = ix2 r l := ⟨_, _, eq_ix2 x⟩
  have em : (Rect.unit (s := S512x512) ![0, 128 * p.val] S512x128.size io).emb (ix2 r l) = ix2 r ⟨128 * p.val + l.val, by omega⟩ := by
    refine idx2_eq ?_ ?_
    · show 0 + 1 * r.val = r.val
      omega
    · show 128 * p.val + 1 * l.val = 128 * p.val + l.val
      omega
  have at3 : ∀ (h : ℕ) (hh : h < 8) (o : ℕ) (ho : o + l.val < 256)
      (ih : ∀ a, (![h, 0, o] : Fin 3 → ℕ) a + S1x512x128.size a ≤ S8x512x256.size a),
      G ((Rect.unit (s := S8x512x256) ![h, 0, o] S1x512x128.size ih).toLoadRect.idx (ix3 0 r l)) = G (ix3 ⟨h, hh⟩ r ⟨o + l.val, ho⟩) :=
    fun h hh o ho ih => congrArg G (slab_emb ⟨h, hh⟩ o ih r l ho)
  rw [gate_apply, em, at3 (2 * p.val) (by omega) 0 (by omega), at3 (2 * p.val + 1) (by omega) 0 (by omega),
    at3 (2 * p.val) (by omega) 128 (by omega), at3 (2 * p.val + 1) (by omega) 128 (by omega),
    cols_apply (e := .f32) x3 (128 * p.val) io r l (by omega)]
  unfold outBlk
  refine congrArg (· * _) (congrArg₂ Ideal.div ?_ ?_)
  · split
    · refine congrArg G (idx3_eq ?_ rfl ?_)
      · show 2 * p.val = (128 * p.val + l.val) / 64
        omega
      · show 0 + l.val = (128 * p.val + l.val) % 128
        omega
    · refine congrArg G (idx3_eq ?_ rfl ?_)
      · show 2 * p.val + 1 = (128 * p.val + l.val) / 64
        omega
      · show 0 + l.val = (128 * p.val + l.val) % 128
        omega
  · split
    · refine congrArg G (idx3_eq ?_ rfl ?_)
      · show 2 * p.val = (128 * p.val + l.val) / 64
        omega
      · show 128 + l.val = 128 + (128 * p.val + l.val) % 128
        omega
    · refine congrArg G (idx3_eq ?_ rfl ?_)
      · show 2 * p.val + 1 = (128 * p.val + l.val) / 64
        omega
      · show 128 + l.val = 128 + (128 * p.val + l.val) % 128
        omega

/-- Four stores of the pairs' columns leave the function they are blocks of. -/
theorem canon_out (G : S512x512.Idx → EReal) (p : Fin 4 → S512x128.Idx → EReal)
    (ia : ∀ h : Fin 4, ∀ a, (![0, 128 * h.val] : Fin 2 → ℕ) a + S512x128.size a ≤ S512x512.size a)
    (hp : ∀ h x, p h x = G ((Rect.unit (s := S512x512) ![0, 128 * h.val] S512x128.size (ia h)).emb x))
    (P : List (View.Piece (Elt Ideal) S512x512 .bf16))
    (hP : P = [⟨Rect.unit ![0, 128 * ((3 : Fin 4) : ℕ)] S512x128.size (ia 3), p 3⟩, ⟨Rect.unit ![0, 128 * ((2 : Fin 4) : ℕ)] S512x128.size (ia 2), p 2⟩,
      ⟨Rect.unit ![0, 128 * ((1 : Fin 4) : ℕ)] S512x128.size (ia 1), p 1⟩, ⟨Rect.unit ![0, 128 * ((0 : Fin 4) : ℕ)] S512x128.size (ia 0), p 0⟩]) :
    View.canon P = G := by
  funext y
  obtain ⟨r, c, rfl⟩ : ∃ (r : Fin 512) (c : Fin 512), y = ix2 r c := ⟨_, _, eq_ix2 y⟩
  have hm : ∀ h : Fin 4, (⟨Rect.unit ![0, 128 * h.val] S512x128.size (ia h), p h⟩ : View.Piece (Elt Ideal) S512x512 .bf16) ∈ P := by
    intro h; subst hP; fin_cases h <;> simp
  refine View.canon_apply_of_pieces G P ?_ _ ⟨_, hm ⟨c.val / 128, by omega⟩, ?_⟩
  · subst hP
    intro q hq
    simp only [List.mem_cons, List.not_mem_nil, or_false] at hq
    rcases hq with rfl | rfl | rfl | rfl <;> exact hp _
  · have e : ix2 r c = (Rect.unit (s := S512x512) ![0, 128 * (c.val / 128)] S512x128.size (ia ⟨c.val / 128, by omega⟩)).toLoadRect.idx
        (ix2 r ⟨c.val % 128, by omega⟩) := by
      refine idx2_eq ?_ ?_
      · show r.val = 0 + 1 * r.val
        omega
      · show c.val = 128 * (c.val / 128) + 1 * (c.val % 128)
        omega
    rw [e]
    exact LoadRect.idx_mem _ _

section
variable {κ : Kind} {sp : Space} (v : View sig κ sp S8x512x256 .f32) (L : List (View.Piece (Elt Ideal) S8x512x256 .f32)) (x3 : S512x512.Idx → EReal)
  (i0 : ∀ p : Fin 4, ∀ a, (![2 * p.val, 0, 0] : Fin 3 → ℕ) a + S1x512x128.size a ≤ S8x512x256.size a)
  (i1 : ∀ p : Fin 4, ∀ a, (![2 * p.val + 1, 0, 0] : Fin 3 → ℕ) a + S1x512x128.size a ≤ S8x512x256.size a)
  (d0 : ∀ p : Fin 4, ∀ a, (![2 * p.val, 0, 128] : Fin 3 → ℕ) a + S1x512x128.size a ≤ S8x512x256.size a)
  (d1 : ∀ p : Fin 4, ∀ a, (![2 * p.val + 1, 0, 128] : Fin 3 → ℕ) a + S1x512x128.size a ≤ S8x512x256.size a)
  (io : ∀ p : Fin 4, ∀ a, (![0, 128 * p.val] : Fin 2 → ℕ) a + S512x128.size a ≤ S512x512.size a)

/-- What is stored for one pair, read from the slabs' stores. -/
def outVal (p : Fin 4) : S512x128.Idx → EReal :=
  k0_pay39 (F := Ideal) k0_pay30
    (v.readCov L (Rect.unit (s := S8x512x256) ![2 * p.val, 0, 0] S1x512x128.size (i0 p)).toLoadRect)
    (v.readCov L (Rect.unit (s := S8x512x256) ![2 * p.val + 1, 0, 0] S1x512x128.size (i1 p)).toLoadRect)
    (v.readCov L (Rect.unit (s := S8x512x256) ![2 * p.val, 0, 128] S1x512x128.size (d0 p)).toLoadRect)
    (v.readCov L (Rect.unit (s := S8x512x256) ![2 * p.val + 1, 0, 128] S1x512x128.size (d1 p)).toLoadRect)
    (View.ld (Val := Elt Ideal) (e' := .f32) x3 (Rect.unit (s := S512x512) ![0, 128 * p.val] S512x128.size (io p)))

/-- The four stored pairs are the output block of the function the slabs' stores leave. -/
theorem out_pieces (G : S8x512x256.Idx → EReal) (hL : View.canon L = G) (P : List (View.Piece (Elt Ideal) S512x512 .bf16))
    (hP : P = [⟨Rect.unit ![0, 128 * ((3 : Fin 4) : ℕ)] S512x128.size (io 3), outVal v L x3 i0 i1 d0 d1 io 3⟩,
      ⟨Rect.unit ![0, 128 * ((2 : Fin 4) : ℕ)] S512x128.size (io 2), outVal v L x3 i0 i1 d0 d1 io 2⟩,
      ⟨Rect.unit ![0, 128 * ((1 : Fin 4) : ℕ)] S512x128.size (io 1), outVal v L x3 i0 i1 d0 d1 io 1⟩,
      ⟨Rect.unit ![0, 128 * ((0 : Fin 4) : ℕ)] S512x128.size (io 0), outVal v L x3 i0 i1 d0 d1 io 0⟩]) :
    View.canon P = outBlk G x3 := by
  refine canon_out _ (outVal v L x3 i0 i1 d0 d1 io) io (fun p x => ?_) P hP
  unfold outVal
  simp only [View.readCov_eq_canon', hL]
  exact out_slot G x3 p (i0 p) (i1 p) (d0 p) (d1 p) (io p) x
end

/-- A load of a whole slab skips the stores of other slabs. -/
theorem skip_slab {κ : Kind} {sp : Space} (v : View sig κ sp S8x512x256 .f32) (r : Rect S8x512x256) (w : r.shape.Idx → EReal)
    (L : List (View.Piece (Elt Ideal) S8x512x256 .f32)) (off : Fin 3 → ℕ) (ib : ∀ a, off a + S1x512x256.size a ≤ S8x512x256.size a)
    (h : LoadRect.disj r (Rect.unit (s := S8x512x256) off S1x512x256.size ib).toLoadRect = true) :
    v.readCov (⟨r, w⟩ :: L) (Rect.unit (s := S8x512x256) off S1x512x256.size ib).toLoadRect
      = v.readCov L (Rect.unit (s := S8x512x256) off S1x512x256.size ib).toLoadRect :=
  View.readCov_skip v r w L _ h

end Cert.FoxIdeal.Own

end
-- ==== Proof.Fox.Block.lean ====
/-
  EACH KIND OF GRID POINT: what a point below the diagonal leaves in the eight slabs, at the first key block of a row and
  later, and what a point on the diagonal leaves in its output block.
-/
module

public import proofs.«01_k».proof.Proof.Fox.Step

@[expose] public section

noncomputable section

namespace Cert.FoxIdeal.Own

open Cert.FoxIdeal Cert.FoxIdeal.Gen Cert.Layer Idealize.ShloMosaic Idealize.ShloMosaic.TcCoe
open Idealize.ShloMosaic.Tactic

/-- A later key block below the diagonal adds to the slabs. -/
theorem slabs_D (c i a4 h4 a5 h5 a6 h6 a7 h7 a8 h8 T0 T1 x0 x1 x2 x3 xa p q s) :
    (View.whole cc0_scratch0).read (Elt Ideal) (kernelRun0_D c i a4 h4 a5 h5 a6 h6 a7 h7 a8 h8 T0 T1 x0 x1 x2 x3 xa p q s).1
      = slab (wt x0 x1) x2 ((View.whole cc0_scratch0).read (Elt Ideal) xa) := by
  unfold kernelRun0_D; dsimp only
  sl_unfold_words
  simp only [View.readAt_eq_ld, View.read_rep, pay7, pay9, pay10, pay12, pay13, pay2, pay3]
  refine (View.read_writes_junk_eq_canon (Val := Elt Ideal) (View.whole cc0_scratch0) _).trans ?_
  exact canon_slabs _ (fun h => match h with
    | 7 => _ | 6 => _ | 5 => _ | 4 => _ | 3 => _ | 2 => _ | 1 => _ | 0 => _) (by decide)
    (fun h x => match h with
      | 7 => plain_slot x0 x1 x2 _ 7 _ _ _ x
      | 6 => plain_slot x0 x1 x2 _ 6 _ _ _ x
      | 5 => plain_slot x0 x1 x2 _ 5 _ _ _ x
      | 4 => plain_slot x0 x1 x2 _ 4 _ _ _ x
      | 3 => plain_slot x0 x1 x2 _ 3 _ _ _ x
      | 2 => plain_slot x0 x1 x2 _ 2 _ _ _ x
      | 1 => plain_slot x0 x1 x2 _ 1 _ _ _ x
      | 0 => plain_slot x0 x1 x2 _ 0 _ _ _ x) [] _ rfl

/-- The first key block below the diagonal fills the slabs with zero and adds to them. -/
theorem slabs_B (c i a4 h4 a5 h5 a6 h6 a7 h7 a8 h8 T0 T1 x0 x1 x2 x3 p q s) :
    (View.whole cc0_scratch0).read (Elt Ideal) (kernelRun0_B c i a4 h4 a5 h5 a6 h6 a7 h7 a8 h8 T0 T1 x0 x1 x2 x3 p q s).1
      = slab (wt x0 x1) x2 (k0_pay1 (F := Ideal)) := by
  unfold kernelRun0_B; dsimp only
  sl_unfold_words
  simp (disch := decide) only [↓View.readCov_skip]
  simp (disch := decide) only [View.readCov_fill]
  simp only [View.readAt_eq_ld, View.read_rep, pay7, pay9, pay10, pay12, pay13, pay2, pay3]
  refine (View.read_writes_junk_eq_canon (Val := Elt Ideal) (View.whole cc0_scratch0) _).trans ?_
  exact canon_slabs _ (fun h => match h with
    | 7 => _ | 6 => _ | 5 => _ | 4 => _ | 3 => _ | 2 => _ | 1 => _ | 0 => _) (by decide)
    (fun h x => match h with
      | 7 => plain_slot x0 x1 x2 _ 7 _ _ _ x
      | 6 => plain_slot x0 x1 x2 _ 6 _ _ _ x
      | 5 => plain_slot x0 x1 x2 _ 5 _ _ _ x
      | 4 => plain_slot x0 x1 x2 _ 4 _ _ _ x
      | 3 => plain_slot x0 x1 x2 _ 3 _ _ _ x
      | 2 => plain_slot x0 x1 x2 _ 2 _ _ _ x
      | 1 => plain_slot x0 x1 x2 _ 1 _ _ _ x
      | 0 => plain_slot x0 x1 x2 _ 0 _ _ _ x) [_] _ rfl

set_option maxHeartbeats 400000 in
/-- The diagonal point of a later row stores the output block of the slabs it completes. -/
theorem out_C (c i a4 h4 a5 h5 a6 h6 a7 h7 a8 h8 T0 T1 x0 x1 x2 x3 xa p q s) :
    View.canon (kernelRun0_C c i a4 h4 a5 h5 a6 h6 a7 h7 a8 h8 T0 T1 x0 x1 x2 x3 xa p q s).1
      = outBlk (slab (wtM x0 x1) x2 ((View.whole cc0_scratch0).read (Elt Ideal) xa)) x3 := by
  unfold kernelRun0_C; dsimp only
  sl_unfold_words
  simp only [View.readAt_eq_ld, View.read_rep, pay19, pay21, pay23, pay25, pay26, pay28, pay29, pay4, pay35, pay38]
  refine out_pieces (View.whole cc0_scratch0) _ x3 (by decide) (by decide) (by decide) (by decide) (by decide) _ ?_ _ rfl
  exact canon_slabs _ (fun h => match h with
    | 7 => _ | 6 => _ | 5 => _ | 4 => _ | 3 => _ | 2 => _ | 1 => _ | 0 => _) (by decide)
    (fun h x => match h with
      | 7 => masked_slot x0 x1 x2 _ 7 _ _ _ x
      | 6 => masked_slot x0 x1 x2 _ 6 _ _ _ x
      | 5 => masked_slot x0 x1 x2 _ 5 _ _ _ x
      | 4 => masked_slot x0 x1 x2 _ 4 _ _ _ x
      | 3 => masked_slot x0 x1 x2 _ 3 _ _ _ x
      | 2 => masked_slot x0 x1 x2 _ 2 _ _ _ x
      | 1 => masked_slot x0 x1 x2 _ 1 _ _ _ x
      | 0 => masked_slot x0 x1 x2 _ 0 _ _ _ x) [] _ rfl

set_option maxHeartbeats 800000 in
/-- The first point of all is on the diagonal: it fills the slabs with zero, completes them and stores their output block. -/
theorem out_A (c i a4 h4 a5 h5 a6 h6 a7 h7 a8 h8 T0 T1 x0 x1 x2 x3 p q s) :
    View.canon (kernelRun0_A c i a4 h4 a5 h5 a6 h6 a7 h7 a8 h8 T0 T1 x0 x1 x2 x3 p q s).1
      = outBlk (slab (wtM x0 x1) x2 (k0_pay1 (F := Ideal))) x3 := by
  unfold kernelRun0_A; dsimp only
  sl_unfold_words
  simp (disch := decide) only [↓skip_slab]
  simp (disch := decide) only [↓View.readCov_fill]
  simp only [View.readAt_eq_ld, View.read_rep, pay19, pay21, pay23, pay25, pay26, pay28, pay29, pay4, pay35, pay38]
  refine out_pieces (View.whole cc0_scratch0) _ x3 (by decide) (by decide) (by decide) (by decide) (by decide) _ ?_ _ rfl
  exact canon_slabs _ (fun h => match h with
    | 7 => _ | 6 => _ | 5 => _ | 4 => _ | 3 => _ | 2 => _ | 1 => _ | 0 => _) (by decide)
    (fun h x => match h with
      | 7 => masked_slot x0 x1 x2 _ 7 _ _ _ x
      | 6 => masked_slot x0 x1 x2 _ 6 _ _ _ x
      | 5 => masked_slot x0 x1 x2 _ 5 _ _ _ x
      | 4 => masked_slot x0 x1 x2 _ 4 _ _ _ x
      | 3 => masked_slot x0 x1 x2 _ 3 _ _ _ x
      | 2 => masked_slot x0 x1 x2 _ 2 _ _ _ x
      | 1 => masked_slot x0 x1 x2 _ 1 _ _ _ x
      | 0 => masked_slot x0 x1 x2 _ 0 _ _ _ x) [_] _ rfl

end Cert.FoxIdeal.Own

end
-- ==== Proof.Fox.Point.lean ====
/-
  THE GRID OF THE FORGETTING ATTENTION: the 136 points walk the block pairs (row, column) with column at most row, a row
  at a time. Which blocks the windows read at a point, which decisions the point takes, and which pair comes before.
-/
module

public import proofs.«01_k».proof.Proof.Gen.FoxIdeal.Flash

@[expose] public section

set_option maxRecDepth 16384
set_option Elab.async false

noncomputable section

namespace Cert.FoxIdeal.Own

open Cert.FoxIdeal Cert.FoxIdeal.Gen Idealize.ShloMosaic Idealize.ShloMosaic.TcCoe

/-- The grid's points. -/
abbrev Pt : Type := Fin (cfgA (0 : Fin 1)).N

/-- The query block of a point, and its key block. -/
abbrev row (t : Pt) : ℕ := ((cfgA (0 : Fin 1)).win (0 : Fin 5)).index t (0 : Fin 2)
abbrev col (t : Pt) : ℕ := ((cfgA (0 : Fin 1)).win (1 : Fin 5)).index t (0 : Fin 2)

/-- What is read off the tables at a point. -/
abbrev At (t : Pt) : Prop :=
  (((cfgA (0 : Fin 1)).win (0 : Fin 5)).index t (1 : Fin 2) = 0 ∧ ((cfgA (0 : Fin 1)).win (1 : Fin 5)).index t (1 : Fin 2) = 0)
  ∧ (((cfgA (0 : Fin 1)).win (2 : Fin 5)).index t (0 : Fin 2) = col t ∧ ((cfgA (0 : Fin 1)).win (2 : Fin 5)).index t (1 : Fin 2) = 0)
  ∧ (((cfgA (0 : Fin 1)).win (3 : Fin 5)).index t (0 : Fin 2) = row t ∧ ((cfgA (0 : Fin 1)).win (3 : Fin 5)).index t (1 : Fin 2) = 3)
  ∧ (((cfgA (0 : Fin 1)).win (4 : Fin 5)).index t (0 : Fin 2) = row t ∧ ((cfgA (0 : Fin 1)).win (4 : Fin 5)).index t (1 : Fin 2) = 0)
  ∧ ((P0_0 0 t ↔ col t = 0) ∧ (P0_1 0 t ↔ col t < row t))
  ∧ (row t < 16 ∧ col t ≤ row t ∧ row t * (row t + 1) / 2 + col t = t.val)

theorem at_0 : ∀ t : Pt, 0 ≤ t.val → t.val < 17 → At t := by decide +kernel
theorem at_1 : ∀ t : Pt, 17 ≤ t.val → t.val < 34 → At t := by decide +kernel
theorem at_2 : ∀ t : Pt, 34 ≤ t.val → t.val < 51 → At t := by decide +kernel
theorem at_3 : ∀ t : Pt, 51 ≤ t.val → t.val < 68 → At t := by decide +kernel
theorem at_4 : ∀ t : Pt, 68 ≤ t.val → t.val < 85 → At t := by decide +kernel
theorem at_5 : ∀ t : Pt, 85 ≤ t.val → t.val < 102 → At t := by decide +kernel
theorem at_6 : ∀ t : Pt, 102 ≤ t.val → t.val < 119 → At t := by decide +kernel
theorem at_7 : ∀ t : Pt, 119 ≤ t.val → t.val < 136 → At t := by decide +kernel

/-- It is so at every point. -/
theorem at_point (t : Pt) : At t := by
  have h0 : 0 ≤ t.val := Nat.zero_le _
  rcases Nat.lt_or_ge t.val 17 with h1 | h1; · exact at_0 t h0 h1
  rcases Nat.lt_or_ge t.val 34 with h2 | h2; · exact at_1 t h1 h2
  rcases Nat.lt_or_ge t.val 51 with h3 | h3; · exact at_2 t h2 h3
  rcases Nat.lt_or_ge t.val 68 with h4 | h4; · exact at_3 t h3 h4
  rcases Nat.lt_or_ge t.val 85 with h5 | h5; · exact at_4 t h4 h5
  rcases Nat.lt_or_ge t.val 102 with h6 | h6; · exact at_5 t h5 h6
  rcases Nat.lt_or_ge t.val 119 with h7 | h7; · exact at_6 t h6 h7
  exact at_7 t h7 t.isLt

/-- A pair's place in the walk tells the pair. -/
theorem walk_inj : ∀ (R R' C C' : Fin 16), C ≤ R → C' ≤ R' → R.val * (R.val + 1) / 2 + C.val = R'.val * (R'.val + 1) / 2 + C'.val →
    R = R' ∧ C = C' := by decide +kernel

/-- The point of a given pair. -/
theorem point_of (t : Pt) (R C : ℕ) (hR : R < 16) (hC : C ≤ R) (h : R * (R + 1) / 2 + C = t.val) : row t = R ∧ col t = C := by
  obtain ⟨-, -, -, -, -, h1, h2, h3⟩ := at_point t
  obtain ⟨e1, e2⟩ := walk_inj ⟨row t, h1⟩ ⟨R, hR⟩ ⟨col t, by omega⟩ ⟨C, by omega⟩ (by exact h2) (by exact hC) (by
    show row t * (row t + 1) / 2 + col t = R * (R + 1) / 2 + C
    omega)
  exact ⟨congrArg Fin.val e1, congrArg Fin.val e2⟩

/-- Before a point that is not the first of its row comes its left neighbour. -/
theorem before (t : Pt) (h : col t ≠ 0) : ∃ h0 : t.val ≠ 0, row ⟨t.val - 1, by omega⟩ = row t ∧ col ⟨t.val - 1, by omega⟩ + 1 = col t := by
  obtain ⟨-, -, -, -, -, h1, h2, h3⟩ := at_point t
  have h0 : t.val ≠ 0 := by omega
  refine ⟨h0, ?_⟩
  obtain ⟨e1, e2⟩ := point_of ⟨t.val - 1, by omega⟩ (row t) (col t - 1) h1 (by omega) (by show _ = t.val - 1; omega)
  exact ⟨e1, by omega⟩

/-- Every row has a diagonal point. -/
theorem diagonal (R : ℕ) (hR : R < 16) : ∃ t : Pt, row t = R ∧ col t = R := by
  have hN : R * (R + 1) / 2 + R < (cfgA (0 : Fin 1)).N := by
    show _ < 136
    interval_cases R <;> decide
  exact ⟨⟨_, hN⟩, point_of ⟨_, hN⟩ R R hR le_rfl rfl⟩

end Cert.FoxIdeal.Own

end
-- ==== Proof.Fox.Array.lean ====
/-
  WHAT THE FORGETTING ATTENTION'S RESULT ARRAY HOLDS: the blocks the windows read, placed in the arguments; what the slabs
  hold after a point below the diagonal — the sums over the key blocks up to that point's —; and so the array after the
  run, element by element: the causal weighted sum of a head's values over the causal sum of the weights, times the
  logistic of the gate.
-/
module

public import proofs.«01_k».proof.Proof.Fox.Block
public import proofs.«01_k».proof.Proof.Fox.Point
public import Idealize.ShloMosaic.Lib.Pipeline.Value

@[expose] public section

noncomputable section

namespace Cert.FoxIdeal.Own

open Cert.FoxIdeal Cert.FoxIdeal.Gen Cert.Layer Idealize.ShloMosaic Idealize.ShloMosaic.TcCoe

/-! ## The claim's function of the arguments -/

section
variable (Q K : FVec Ideal ⟨2, ![8192, 1024]⟩ .bf16) (V : FVec Ideal ⟨2, ![8192, 512]⟩ .bf16) (Z : FVec Ideal ⟨2, ![8192, 8192]⟩ .f32)

/-- The weight of a query row for a key row under one head. -/
def weight (h : Fin 8) (a b : Fin 8192) : EReal :=
  Ideal.exp2 (∑ d : Fin 128, Q (ix2 a ⟨128 * h.val + d.val, by omega⟩) * K (ix2 b ⟨128 * h.val + d.val, by omega⟩))

/-- The values of a head's pair, extended by ones. -/
def value (h : Fin 8) (b : Fin 8192) (l : Fin 256) : EReal := ext (fun e => V (ix2 b ⟨128 * (h.val / 2) + e.val, by omega⟩)) l

/-- The causal sum. -/
def total (h : Fin 8) (a : Fin 8192) (l : Fin 256) : EReal :=
  ∑ b : Fin 8192, (if b.val ≤ a.val then weight Q K h a b else 0) * value V h b l

/-- An element of the result. -/
def attended (a : Fin 8192) (o : Fin 512) : EReal :=
  Ideal.div (total Q K V ⟨o.val / 64, by omega⟩ a ⟨o.val % 128, by omega⟩) (total Q K V ⟨o.val / 64, by omega⟩ a ⟨128 + o.val % 128, by omega⟩)
    * sigm (Z (ix2 a ⟨1536 + o.val, by omega⟩))

/-- Row `s` of block `J`. -/
def place (J : ℕ) (s : Fin 512) : Fin 8192 := ⟨(512 * J + s.val) % 8192, Nat.mod_lt _ (by norm_num)⟩

/-- A row of a block inside the array. -/
theorem place_val (J : ℕ) (hJ : J < 16) (s : Fin 512) : (place J s).val = 512 * J + s.val :=
  Nat.mod_eq_of_lt (by omega)

/-- What key block `J` contributes to row `r` of query block `I`, unmasked. -/
def share (I J : ℕ) (h : Fin 8) (r : Fin 512) (l : Fin 256) : EReal :=
  ∑ s : Fin 512, weight Q K h (place I r) (place J s) * value V h (place J s) l

/-- The causal sum of a row is the contributions of the blocks to the left and the masked block on the diagonal. -/
theorem total_eq (I : ℕ) (hI : I < 16) (h : Fin 8) (r : Fin 512) (l : Fin 256) :
    total Q K V h (place I r) l = ∑ J ∈ Finset.range I, share Q K V I J h r l
      + ∑ s : Fin 512, (if s.val ≤ r.val then weight Q K h (place I r) (place I s) else 0) * value V h (place I s) l := by
  unfold total
  rw [Fin.sum_univ_tiles 16 512 (by norm_num)]
  have step : ∀ J : Fin 16, (∑ s : Fin 512, (if J.val * 512 + s.val ≤ (place I r).val then
        weight Q K h (place I r) ⟨J.val * 512 + s.val, by omega⟩ else 0) * value V h ⟨J.val * 512 + s.val, by omega⟩ l)
      = ∑ s : Fin 512, (if (place J.val s).val ≤ (place I r).val then weight Q K h (place I r) (place J.val s) else 0)
        * value V h (place J.val s) l := fun J => Finset.sum_congr rfl fun s _ => by
    have e : (⟨J.val * 512 + s.val, by omega⟩ : Fin 8192) = place J.val s := Fin.ext (by rw [place_val _ J.isLt]; show J.val * 512 + s.val = _; omega)
    rw [← e]
  rw [Finset.sum_congr rfl fun J _ => step J, ← Finset.sum_range (fun J : ℕ =>
    ∑ s : Fin 512, (if (place J s).val ≤ (place I r).val then weight Q K h (place I r) (place J s) else 0) * value V h (place J s) l)]
  rw [← Finset.sum_subset (Finset.range_subset_range.mpr (show I + 1 ≤ 16 by omega)) (fun J hJ hn => ?_), Finset.sum_range_succ]
  · refine congrArg₂ (· + ·) (Finset.sum_congr rfl fun J hJ => Finset.sum_congr rfl fun s _ => ?_) (Finset.sum_congr rfl fun s _ => ?_)
    · have hJ' := Finset.mem_range.mp hJ
      rw [if_pos (by rw [place_val _ hI, place_val _ (by omega)]; omega)]
    · rw [place_val _ hI, place_val _ hI]
      simp only [Nat.add_le_add_iff_left]
  · have h1 := Finset.mem_range.mp hJ
    have h2 : I < J := by by_contra hh; exact hn (Finset.mem_range.mpr (by omega))
    refine Finset.sum_eq_zero fun s _ => ?_
    rw [if_neg (by rw [place_val _ hI, place_val _ h1]; omega), zero_mul]
end

variable (m : (ℓ : Loc nD τ sig) → Buf (Elt Ideal) ℓ) (ρ : Dev nD → PrngReg) (c : Dev nD)

/-- The arguments as launched. -/
abbrev Q : FVec Ideal ⟨2, ![8192, 1024]⟩ .bf16 := m ((c : Thread nD τ).loc main_arg2)
abbrev K : FVec Ideal ⟨2, ![8192, 1024]⟩ .bf16 := m ((c : Thread nD τ).loc main_arg3)
abbrev V : FVec Ideal ⟨2, ![8192, 512]⟩ .bf16 := m ((c : Thread nD τ).loc main_arg4)
abbrev Z : FVec Ideal ⟨2, ![8192, 8192]⟩ .f32 := m ((c : Thread nD τ).loc main_arg5)

/-! ## The blocks -/

theorem blk0 (t : Pt) (r : Fin 512) (k : Fin 1024) :
    (iblk 0 m ρ c 0 t : FVec Ideal S512x1024 .bf16) (ix2 r k) = Q m c (ix2 (place (row t) r) k) := by
  obtain ⟨⟨e0, -⟩, -, -, -, -, h1, -⟩ := at_point t
  unfold iblk
  rw [View.read_apply]
  refine congrArg (m ((c : Thread nD τ).loc main_arg2)) (idx2_eq ?_ ?_)
  · show row t * 512 + 1 * r.val = (place (row t) r).val
    rw [place_val _ h1]; omega
  · show ((cfgA (0 : Fin 1)).win (0 : Fin 5)).index t (1 : Fin 2) * 1024 + 1 * k.val = k.val
    rw [e0]; omega

theorem blk1 (t : Pt) (r : Fin 512) (k : Fin 1024) :
    (iblk 0 m ρ c 1 t : FVec Ideal S512x1024 .bf16) (ix2 r k) = K m c (ix2 (place (col t) r) k) := by
  obtain ⟨⟨-, e1⟩, -, -, -, -, h1, h2, -⟩ := at_point t
  unfold iblk
  rw [View.read_apply]
  refine congrArg (m ((c : Thread nD τ).loc main_arg3)) (idx2_eq ?_ ?_)
  · show col t * 512 + 1 * r.val = (place (col t) r).val
    rw [place_val _ (by omega)]; omega
  · show ((cfgA (0 : Fin 1)).win (1 : Fin 5)).index t (1 : Fin 2) * 1024 + 1 * k.val = k.val
    rw [e1]; omega

theorem blk2 (t : Pt) (r : Fin 512) (k : Fin 512) :
    (iblk 0 m ρ c 2 t : FVec Ideal S512x512 .bf16) (ix2 r k) = V m c (ix2 (place (col t) r) k) := by
  obtain ⟨-, ⟨e0, e1⟩, -, -, -, h1, h2, -⟩ := at_point t
  unfold iblk
  rw [View.read_apply]
  refine congrArg (m ((c : Thread nD τ).loc main_arg4)) (idx2_eq ?_ ?_)
  · show ((cfgA (0 : Fin 1)).win (2 : Fin 5)).index t (0 : Fin 2) * 512 + 1 * r.val = (place (col t) r).val
    rw [e0, place_val _ (by omega)]; omega
  · show ((cfgA (0 : Fin 1)).win (2 : Fin 5)).index t (1 : Fin 2) * 512 + 1 * k.val = k.val
    rw [e1]; omega

theorem blk3 (t : Pt) (r : Fin 512) (k : Fin 512) :
    (iblk 0 m ρ c 3 t : FVec Ideal S512x512 .f32) (ix2 r k) = Z m c (ix2 (place (row t) r) ⟨1536 + k.val, by omega⟩) := by
  obtain ⟨-, -, ⟨e0, e1⟩, -, -, h1, h2, -⟩ := at_point t
  unfold iblk
  rw [View.read_apply]
  refine congrArg (m ((c : Thread nD τ).loc main_arg5)) (idx2_eq ?_ ?_)
  · show ((cfgA (0 : Fin 1)).win (3 : Fin 5)).index t (0 : Fin 2) * 512 + 1 * r.val = (place (row t) r).val
    rw [e0, place_val _ h1]; omega
  · show ((cfgA (0 : Fin 1)).win (3 : Fin 5)).index t (1 : Fin 2) * 512 + 1 * k.val = 1536 + k.val
    rw [e1]; omega

/-- The block's weights are the arguments' weights. -/
theorem wt_at (t : Pt) (h : Fin 8) (r s : Fin 512) :
    wt (iblk 0 m ρ c 0 t) (iblk 0 m ρ c 1 t) h r s = weight (Q m c) (K m c) h (place (row t) r) (place (col t) s) :=
  congrArg Ideal.exp2 (Finset.sum_congr rfl fun _ _ => congrArg₂ (· * ·) (blk0 m ρ c t r _) (blk1 m ρ c t s _))

/-- The block's values are the arguments' values. -/
theorem vals_at (t : Pt) (h : Fin 8) (s : Fin 512) (l : Fin 256) :
    vals (iblk 0 m ρ c 2 t) h s l = value (V m c) h (place (col t) s) l :=
  congrArg (ext · l) (funext fun _ => blk2 m ρ c t s _)

/-- What a point below the diagonal adds. -/
theorem gain_plain (t : Pt) (h : Fin 8) (r : Fin 512) (l : Fin 256) :
    gain (wt (iblk 0 m ρ c 0 t) (iblk 0 m ρ c 1 t)) (iblk 0 m ρ c 2 t) h r l = share (Q m c) (K m c) (V m c) (row t) (col t) h r l :=
  Finset.sum_congr rfl fun s _ => congrArg₂ (· * ·) (wt_at m ρ c t h r s) (vals_at m ρ c t h s l)

/-- What a point on the diagonal adds. -/
theorem gain_masked (t : Pt) (h : Fin 8) (r : Fin 512) (l : Fin 256) :
    gain (wtM (iblk 0 m ρ c 0 t) (iblk 0 m ρ c 1 t)) (iblk 0 m ρ c 2 t) h r l
      = ∑ s : Fin 512, (if s.val ≤ r.val then weight (Q m c) (K m c) h (place (row t) r) (place (col t) s) else 0)
        * value (V m c) h (place (col t) s) l :=
  Finset.sum_congr rfl fun s _ => congrArg₂ (· * ·) (by unfold wtM; rw [wt_at]) (vals_at m ρ c t h s l)

/-- The fill is zero. -/
theorem fill_zero (y : S8x512x256.Idx) : (k0_pay1 (F := Ideal)) y = 0 := by
  unfold k0_pay1
  pointwise

/-! ## The slabs and the output block -/

/-- The slabs after a point below the diagonal: the contributions of the key blocks up to that point's. -/
theorem slabs_after : ∀ (n : ℕ) (t : Pt), col t = n → col t < row t → ∀ (h : Fin 8) (r : Fin 512) (l : Fin 256),
    (View.whole cc0_scratch0).read (Elt Ideal) (traj0 0 m ρ c t.val t.isLt).2 (ix3 h r l)
      = ∑ J ∈ Finset.range (n + 1), share (Q m c) (K m c) (V m c) (row t) J h r l := by
  intro n
  induction n with
  | zero =>
    intro t hc hl h r l
    obtain ⟨-, -, -, -, ⟨p0, p1⟩, -⟩ := at_point t
    rw [traj0_eq, step0_B 0 m ρ c t _ (p0.mpr hc) (p1.mpr hl)]
    dsimp only
    rw [slabs_B]
    show k0_pay1 (F := Ideal) _ + gain _ _ h r l = _
    rw [fill_zero, zero_add, gain_plain, Finset.sum_range_one, hc]
  | succ n ih =>
    intro t hc hl h r l
    obtain ⟨-, -, -, -, ⟨p0, p1⟩, -⟩ := at_point t
    obtain ⟨h0, e1, e2⟩ := before t (by omega)
    rw [traj0_eq, step0_D 0 m ρ c t _ (fun q => by have := p0.mp q; omega) (p1.mpr hl)]
    dsimp only
    rw [slabs_D]
    show @HAdd.hAdd EReal EReal EReal _ ((View.whole cc0_scratch0).read (Elt Ideal) (prev0 0 m ρ c t).2 (ix3 h r l)) (gain _ _ h r l) = _
    unfold prev0
    rw [dif_neg h0, ih ⟨t.val - 1, by omega⟩ (by omega) (by omega) h r l, gain_plain, Finset.sum_range_succ _ (n + 1), e1, hc]

/-- The output block after a point on the diagonal. -/
theorem block (t : Pt) (hd : col t = row t) (r : Fin 512) (o : Fin 512) :
    (traj0 0 m ρ c t.val t.isLt).1 (ix2 r o) = attended (Q m c) (K m c) (V m c) (Z m c) (place (row t) r) o := by
  obtain ⟨-, -, -, -, ⟨p0, p1⟩, hR, -⟩ := at_point t
  have n1 : ¬P0_1 0 t := fun q => by have := p1.mp q; omega
  have key : ∃ S : S8x512x256.Idx → EReal, (traj0 0 m ρ c t.val t.isLt).1 = outBlk S (iblk 0 m ρ c 3 t)
      ∧ ∀ h r l, S (ix3 h r l) = total (Q m c) (K m c) (V m c) h (place (row t) r) l := by
    by_cases hz : col t = 0
    · rw [traj0_eq, step0_A 0 m ρ c t _ (p0.mpr hz) n1]
      dsimp only
      unfold out0_A_4
      rw [View.read_writes_junk_eq_canon, out_A]
      refine ⟨_, rfl, fun h r l => ?_⟩
      show k0_pay1 (F := Ideal) _ + gain _ _ h r l = _
      rw [fill_zero, zero_add, gain_masked, total_eq _ _ _ _ hR, ← hd, hz, Finset.sum_range_zero, zero_add]
    · obtain ⟨h0, e1, e2⟩ := before t hz
      rw [traj0_eq, step0_C 0 m ρ c t _ (fun q => hz (p0.mp q)) n1]
      dsimp only
      unfold out0_C_4
      rw [View.read_writes_junk_eq_canon, out_C]
      refine ⟨_, rfl, fun h r l => ?_⟩
      show @HAdd.hAdd EReal EReal EReal _ ((View.whole cc0_scratch0).read (Elt Ideal) (prev0 0 m ρ c t).2 (ix3 h r l)) (gain _ _ h r l) = _
      unfold prev0
      rw [dif_neg h0, slabs_after m ρ c (col t - 1) ⟨t.val - 1, by omega⟩ (by omega) (by omega) h r l, gain_masked, total_eq _ _ _ _ hR, e1,
        show col t - 1 + 1 = row t by omega, hd]
  obtain ⟨S, e, hS⟩ := key
  rw [e]
  unfold attended
  refine congrArg₂ (· * ·) (congrArg₂ Ideal.div (hS _ r _) (hS _ r _)) (congrArg sigm (blk3 m ρ c t r o))

/-! ## The array -/

/-- The result array as a function of the arguments. -/
def result : FVec Ideal ⟨2, ![8192, 512]⟩ .bf16 := fun i => attended (Q m c) (K m c) (V m c) (Z m c) (i 0) (i 1)

/-- Where an element of a diagonal point's output block lies. -/
theorem out_emb (t : Pt) (r o : Fin 512) : (((cfgA (0 : Fin 1)).win (4 : Fin 5)).blk t).view.emb (ix2 r o) = ix2 (n0 := 8192) (n1 := 512) (place (row t) r) o := by
  obtain ⟨-, -, -, ⟨e0, e1⟩, -, h1, -⟩ := at_point t
  refine idx2_eq ?_ ?_
  · show ((cfgA (0 : Fin 1)).win (4 : Fin 5)).index t (0 : Fin 2) * 512 + 1 * r.val = (place (row t) r).val
    rw [e0, place_val _ h1]; omega
  · show ((cfgA (0 : Fin 1)).win (4 : Fin 5)).index t (1 : Fin 2) * 512 + 1 * o.val = o.val
    rw [e1]; omega

/-- The output is written back at the diagonal points and only there. -/
theorem flush_iff (t : Pt) : ((cfgA (0 : Fin 1)).win (4 : Fin 5)).flush t = true ↔ col t = row t := by
  obtain ⟨-, -, -, -, ⟨p0, p1⟩, hR, hl, -⟩ := at_point t
  by_cases q1 : P0_1 0 t
  · have hn : ¬col t = row t := by have := p1.mp q1; omega
    by_cases q0 : P0_0 0 t
    · rw [(sched0_B 0 t q0 q1).2.1]; simp [hn]
    · rw [(sched0_D 0 t q0 q1).2.1]; simp [hn]
  · have hy : col t = row t := by by_contra hn; exact q1 (p1.mpr (by omega))
    by_cases q0 : P0_0 0 t
    · rw [(sched0_A 0 t q0 q1).2.1]; simp [hy]
    · rw [(sched0_C 0 t q0 q1).2.1]; simp [hy]

/-- The array after the run. -/
theorem array : (dats 0 m ρ 0 c).arrAt (4 : Fin 5) (cfgA (0 : Fin 1)).N = result m c := by
  refine (dats 0 m ρ 0 c).arrAt_eq_of_cover (4 : Fin 5) (result m c) (fun t hf => ?_) (fun i => ?_)
  · funext y
    obtain ⟨r, o, rfl⟩ : ∃ (r o : Fin 512), y = ix2 r o := ⟨_, _, eq_ix2 y⟩
    rw [View.read_apply, out_emb]
    exact block m ρ c t ((flush_iff t).mp hf) r o
  · obtain ⟨a, o, rfl⟩ : ∃ (a : Fin 8192) (o : Fin 512), i = ix2 a o := ⟨_, _, eq_ix2 i⟩
    obtain ⟨t, e1, e2⟩ := diagonal (a.val / 512) (by omega)
    refine ⟨t, (flush_iff t).mpr (e2.trans e1.symm), ?_⟩
    have e := out_emb t ⟨a.val % 512, by omega⟩ o
    have ea : place (row t) ⟨a.val % 512, by omega⟩ = a := Fin.ext (by rw [place_val _ (by omega), e1]; show 512 * (a.val / 512) + a.val % 512 = a.val; omega)
    rw [ea] at e
    rw [← e]
    exact View.emb_mem_set _ _

end Cert.FoxIdeal.Own

end
-- ==== Proof.Fox.Softmax.lean ====
/-
  THE SOFTMAX OF A ROW OF FINITE LOGITS, as an average: subtracting any real number from the logits first changes nothing,
  and dividing each weight by the sum before or after the weighted sum is the same. Logits come in base two on one side
  and, times the logarithm of two, in base e on the other.
-/
module

public import Idealize.ShloMosaic.Lib.Pointwise
public import Idealize.ShloMosaic.PureOps.Ideal.Laws

@[expose] public section

noncomputable section

namespace Cert.Softmax

open Idealize.ShloMosaic

/-- A sum of reals, as extended reals. -/
theorem sum_real {ι : Type} [Fintype ι] (f : ι → ℝ) : ∑ i, (f i : EReal) = ((∑ i, f i : ℝ) : EReal) := by
  classical
  induction (Finset.univ : Finset ι) using Finset.induction_on with
  | empty => simp
  | insert a t ha ih => rw [Finset.sum_insert ha, Finset.sum_insert ha, ih, EReal.coe_add]

/-- A nonnegative real factor comes out of a finite sum, also where terms are infinite. -/
theorem sum_factor {ι : Type} [Fintype ι] (c : ℝ) (hc : 0 ≤ c) (f : ι → EReal) : ∑ i, f i * (c : EReal) = (∑ i, f i) * (c : EReal) := by
  classical
  induction (Finset.univ : Finset ι) using Finset.induction_on with
  | empty => simp
  | insert a t ha ih =>
    rw [Finset.sum_insert ha, Finset.sum_insert ha, ih]
    exact (EReal.right_distrib_of_nonneg_of_ne_top (by exact_mod_cast hc) (EReal.coe_ne_top c) _ _).symm

/-- A product of finite values is finite, and so is a sum of such products. -/
theorem dot_real {n : ℕ} (f g : Fin n → EReal) (hf : ∀ i, ∃ r : ℝ, f i = r) (hg : ∀ i, ∃ r : ℝ, g i = r) :
    ∃ r : ℝ, ∑ i, f i * g i = r := by
  choose a ha using hf
  choose b hb using hg
  refine ⟨∑ i, a i * b i, ?_⟩
  rw [← sum_real]
  exact Finset.sum_congr rfl fun i _ => by rw [ha, hb, EReal.coe_mul]

/-- The largest element of a list of values, none of them plus infinity and one of them finite, is finite. -/
theorem max_real {α : Type} (l : List α) (f : α → EReal) (hf : ∀ x, f x ≠ ⊤) (y : α) (hy : y ∈ l) (r : ℝ) (hr : f y = r) :
    ∃ s : ℝ, l.foldl (fun t x => max t (f x)) ⊥ = s := by
  have below : ∀ (l : List α) (t : EReal), t ≠ ⊤ → l.foldl (fun t x => max t (f x)) t ≠ ⊤ := by
    intro l
    induction l with
    | nil => exact fun t ht => ht
    | cons a l ih => exact fun t ht => ih _ (by show max t (f a) ≠ ⊤; rcases max_choice t (f a) with h | h <;> rw [h] <;> [exact ht; exact hf a])
  have grows : ∀ (l : List α) (t : EReal), t ≤ l.foldl (fun t x => max t (f x)) t := by
    intro l
    induction l with
    | nil => exact fun t => le_refl t
    | cons a l ih => exact fun t => (le_max_left _ _).trans (ih _)
  have above : ∀ (l : List α) (t : EReal), y ∈ l → f y ≤ l.foldl (fun t x => max t (f x)) t := by
    intro l
    induction l with
    | nil => exact fun t h => absurd h (List.not_mem_nil)
    | cons a l ih =>
      intro t h
      rcases List.mem_cons.mp h with h | h
      · subst h; exact (le_max_right _ _).trans (grows _ _)
      · exact ih _ h
  have h1 := below l ⊥ (by simp)
  have h2 : l.foldl (fun t x => max t (f x)) ⊥ ≠ ⊥ := by
    intro h
    have := above l ⊥ hy
    rw [h, hr] at this
    exact absurd (le_bot_iff.mp this) (EReal.coe_ne_bot r)
  exact ⟨_, (EReal.coe_toReal h1 h2).symm⟩

/-- The logarithm of the number two. -/
theorem log_two : Ideal.log 2 = ((Real.log 2 : ℝ) : EReal) := by
  show Ideal.log ((2 : ℝ) : EReal) = _
  show (if (2 : ℝ) ≤ 0 then (⊥ : EReal) else ((Real.log 2 : ℝ) : EReal)) = _
  rw [if_neg (by norm_num)]

/-- One weight, shifted by `s`, from its logit in base two. -/
theorem weight_shift (x s : ℝ) :
    Ideal.exp ((x : EReal) * Ideal.log 2 - (s : EReal)) = ((Real.rpow 2 x * Real.exp (-s) : ℝ) : EReal) := by
  rw [log_two, ← EReal.coe_mul, ← EReal.coe_sub]
  show ((Real.exp (x * Real.log 2 - s) : ℝ) : EReal) = _
  have e : Real.rpow 2 x = Real.exp (Real.log 2 * x) := Real.rpow_def_of_pos (by norm_num) x
  rw [e, ← Real.exp_add]
  congr 2
  ring

/-- The average of `v` under the softmax of the logits that `p` admits, written with a shift and the quotient inside, is the
    quotient of two sums. -/
theorem average {n : ℕ} (p : Fin n → Prop) [DecidablePred p] (x : Fin n → ℝ) (v : Fin n → EReal) (s : ℝ) (y : Fin n) (hy : p y) :
    ∑ b, Ideal.div (Ideal.exp ((if p b then (x b : EReal) * Ideal.log 2 else ⊥) - (s : EReal)))
        (0 + ∑ b', Ideal.exp ((if p b' then (x b' : EReal) * Ideal.log 2 else ⊥) - (s : EReal))) * v b
      = Ideal.div (∑ b, (if p b then Ideal.exp2 (x b) else 0) * v b) (∑ b, (if p b then Ideal.exp2 (x b) else 0) * 1) := by
  have hU : ∀ b, (if p b then Ideal.exp2 (x b) else 0) = (((if p b then Real.rpow 2 (x b) else 0) : ℝ) : EReal) := fun b => by
    by_cases h : p b
    · rw [if_pos h, if_pos h]; rfl
    · rw [if_neg h, if_neg h, EReal.coe_zero]
  have hu : ∀ b, Ideal.exp ((if p b then (x b : EReal) * Ideal.log 2 else ⊥) - (s : EReal))
      = (((if p b then Real.rpow 2 (x b) else 0) * Real.exp (-s) : ℝ) : EReal) := fun b => by
    by_cases h : p b
    · rw [if_pos h, if_pos h]; exact weight_shift _ _
    · rw [if_neg h, if_neg h, zero_mul, EReal.coe_zero]
      show Ideal.exp (⊥ - (s : EReal)) = 0
      rw [EReal.bot_sub]; rfl
  have pos : 0 < ∑ b, (if p b then Real.rpow 2 (x b) else 0) :=
    Finset.sum_pos' (fun b _ => by split; exacts [(Real.rpow_pos_of_pos (by norm_num) _).le, le_refl _])
      ⟨y, Finset.mem_univ y, by rw [if_pos hy]; exact Real.rpow_pos_of_pos (by norm_num) _⟩
  simp only [hU, hu, zero_add, mul_one]
  rw [sum_real, sum_real, ← Finset.sum_mul]
  generalize hT : (∑ b, (if p b then Real.rpow 2 (x b) else 0) : ℝ) = T at *
  have hT0 : T ≠ 0 := pos.ne'
  have he : Real.exp (-s) ≠ 0 := (Real.exp_pos _).ne'
  rw [Ideal.div_coe hT0, ← sum_factor _ (one_div_nonneg.mpr pos.le)]
  refine Finset.sum_congr rfl fun b _ => ?_
  rw [Ideal.div_coe (mul_ne_zero hT0 he), ← EReal.coe_mul,
    show (if p b then Real.rpow 2 (x b) else 0) * Real.exp (-s) * (1 / (T * Real.exp (-s)))
      = (if p b then Real.rpow 2 (x b) else 0) * (1 / T) by field_simp, EReal.coe_mul, mul_right_comm]

end Cert.Softmax

end
-- ==== Proof.Fox.Ref.lean ====
/-
  WHAT THE FORGETTING ATTENTION'S REFERENCE COMPUTES, element by element, where every element of the queries and of the
  keys is finite: the causal softmax average of a head's values, times the logistic of the gate — as the quotient of the
  two causal sums that the kernel's result is.
-/
module

public import proofs.«01_k».proof.Proof.Gen.FoxRefIdeal.Read
public import proofs.«01_k».proof.Proof.Fox.Softmax
public import proofs.«01_k».proof.Proof.Norm

@[expose] public section

noncomputable section

namespace Cert.FoxRefIdeal.Own

open Cert.FoxRefIdeal Cert.FoxRefIdeal.Gen Cert.FoxRefIdeal.Read Cert.Layer Idealize.ShloMosaic Idealize.ShloMosaic.TcCoe

/-- Every element is a real number. -/
def Finite (x : FVec Ideal S8192x1024 .bf16) : Prop := ∀ i, ∃ r : ℝ, x i = (r : EReal)

/-- Two indices of a rank-three array with equal coordinates are equal. -/
theorem idx3_eq {a b d : ℕ} {i j : (⟨3, ![a, b, d]⟩ : Shape).Idx} (h0 : (i 0).val = (j 0).val) (h1 : (i 1).val = (j 1).val)
    (h2 : (i 2).val = (j 2).val) : i = j :=
  funext fun k => Fin.ext (match k with | ⟨0, _⟩ => h0 | ⟨1, _⟩ => h1 | ⟨2, _⟩ => h2)

/-- The printed words of two and of minus infinity. -/
theorem word_two : Ideal.ofBits .f32 0x40000000#32 = 2 := by
  simp [Ideal.ofBits, Ideal.ieee, -EReal.coe_mul]; norm_num; rfl

theorem word_bot : Ideal.ofBits .f32 0xFF800000#32 = ⊥ := by
  simp [Ideal.ofBits, Ideal.ieee]

/-- Comparing two row numbers as words is comparing them. -/
theorem sle_rows (x r : Fin 8192) :
    IntOp.cmpi .sle (BitVec.ofNat 32 x.val) (BitVec.ofNat 32 r.val) = BitVec.ofBool (decide (x.val ≤ r.val)) := by
  show BitVec.ofBool (decide ((BitVec.ofNat 32 x.val).toInt ≤ (BitVec.ofNat 32 r.val).toInt)) = _
  rw [BitVec.toInt_eq_toNat_of_lt (by simp; omega), BitVec.toInt_eq_toNat_of_lt (by simp; omega), BitVec.toNat_ofNat, BitVec.toNat_ofNat,
    Nat.mod_eq_of_lt (by omega), Nat.mod_eq_of_lt (by omega)]
  simp

variable (x2 x3 : FVec Ideal S8192x1024 .bf16) (x4 : FVec Ideal S8192x512 .bf16) (x5 : FVec Ideal S8192x8192 .f32)

/-- The dot product of a query row and a key row under one head. -/
def score (h : Fin 8) (a b : Fin 8192) : EReal :=
  ∑ d : Fin 128, x2 (ix2 a ⟨128 * h.val + d.val, by omega⟩) * x3 (ix2 b ⟨128 * h.val + d.val, by omega⟩)

theorem query_at (h : Fin 8) (a : Fin 8192) (d : Fin 128) :
    val_main_v2 (F := Ideal) x2 (ix3 h a d) = x2 (ix2 a ⟨128 * h.val + d.val, by omega⟩) := by
  rw [val_main_v2_apply, val_main_v1_apply]
  exact congrArg x2 (idx2_eq (by show ((a.val * 8 + h.val) * 128 + d.val) / 1024 = a.val; omega)
    (by show ((a.val * 8 + h.val) * 128 + d.val) % 1024 = 128 * h.val + d.val; omega))

theorem key_at (h : Fin 8) (a : Fin 8192) (d : Fin 128) :
    val_main_v5 (F := Ideal) x3 (ix3 h a d) = x3 (ix2 a ⟨128 * h.val + d.val, by omega⟩) := by
  rw [val_main_v5_apply, val_main_v4_apply]
  exact congrArg x3 (idx2_eq (by show ((a.val * 8 + h.val) * 128 + d.val) / 1024 = a.val; omega)
    (by show ((a.val * 8 + h.val) * 128 + d.val) % 1024 = 128 * h.val + d.val; omega))

theorem value_at (h : Fin 8) (b : Fin 8192) (e : Fin 64) :
    val_main_v8 (F := Ideal) x4 (ix3 h b e) = x4 (ix2 b ⟨64 * h.val + e.val, by omega⟩) := by
  rw [val_main_v8_apply, val_main_v7_apply]
  exact congrArg x4 (idx2_eq (by show ((b.val * 8 + h.val) * 64 + e.val) / 512 = b.val; omega)
    (by show ((b.val * 8 + h.val) * 64 + e.val) % 512 = 64 * h.val + e.val; omega))

/-- The masked logits. -/
theorem logit_at (h : Fin 8) (a b : Fin 8192) :
    val_main_v21 (F := Ideal) x2 x3 (ix3 h a b) = if b.val ≤ a.val then score x2 x3 h a b * Ideal.log 2 else ⊥ := by
  have hs : val_main_v9 (F := Ideal) x2 x3 (ix3 h a b) = score x2 x3 h a b := by
    rw [val_main_v9_apply]
    refine Finset.sum_congr rfl fun d _ => congrArg₂ (· * ·) ?_ ?_
    · rw [show lidx_main_v9 (ix3 h a b) d = ix3 h a d from idx3_eq rfl rfl rfl]; exact query_at x2 h a d
    · rw [show ridx_main_v9 (ix3 h a b) d = ix3 h b d from idx3_eq rfl rfl rfl]; exact key_at x3 h b d
  have hl : val_main_v12 (F := Ideal) (ix3 h a b) = Ideal.log 2 := by
    rw [val_main_v12_apply]
    show Ideal.log (Ideal.ofBits .f32 0x40000000#32) = _
    rw [word_two]
  have hm : val_main_call0_v1 (F := Ideal) (ix3 h a b) = BitVec.ofBool (decide (b.val ≤ a.val)) := by
    rw [val_main_call0_v1_apply, val_main_v20_apply, val_main_v18_apply, val_main_v19_apply, val_main_v15_apply, val_main_v17_apply]
    exact sle_rows b a
  rw [val_main_v21_apply, hm, val_main_v13_apply, hs, hl, val_main_call0_v2_apply]
  show Scalar.select _ _ (Ideal.ofBits .f32 0xFF800000#32) = _
  rw [word_bot]
  by_cases e : b.val ≤ a.val
  · rw [if_pos e, decide_eq_true e]; rfl
  · rw [if_neg e, decide_eq_false e]; rfl

theorem score_real (h2 : Finite x2) (h3 : Finite x3) (h : Fin 8) (a b : Fin 8192) : ∃ r : ℝ, score x2 x3 h a b = r :=
  Cert.Softmax.dot_real _ _ (fun _ => h2 _) (fun _ => h3 _)

/-- The row's greatest logit, which the softmax subtracts, is finite. -/
theorem shift_at (h2 : Finite x2) (h3 : Finite x3) (h : Fin 8) (a : Fin 8192) :
    ∃ s : ℝ, ∀ b : Fin 8192, val_main_v26 (F := Ideal) x2 x3 (ix3 h a b) = s := by
  obtain ⟨r, hr⟩ := score_real x2 x3 h2 h3 h a a
  have fin : ∀ i, val_main_v21 (F := Ideal) x2 x3 i ≠ ⊤ := fun i => by
    obtain ⟨h', a', b', rfl⟩ : ∃ (h' : Fin 8) (a' b' : Fin 8192), i = ix3 h' a' b' := ⟨i 0, i 1, i 2, idx3_eq rfl rfl rfl⟩
    obtain ⟨t, ht⟩ := score_real x2 x3 h2 h3 h' a' b'
    rw [logit_at, ht, Cert.Softmax.log_two, ← EReal.coe_mul]
    split
    · exact EReal.coe_ne_top _
    · exact bot_ne_top
  have top : ∃ s : ℝ, val_main_v22 (F := Ideal) x2 x3 (ix2 h a) = s := by
    unfold val_main_v22 Host.reduce
    have e0 : val_main_cst_1 (F := Ideal) (Shape.Idx.first h_S_) = ⊥ := word_bot
    rw [e0]
    refine Cert.Softmax.max_real _ (fun n => val_main_v21 (F := Ideal) x2 x3 (S8x8192x8192.rowMajor.symm n)) (fun n => fin _)
      (S8x8192x8192.rowMajor (ix3 h a a)) ?_ (r * Real.log 2) ?_
    · refine List.mem_filter.mpr ⟨List.mem_finRange _, ?_⟩
      rw [Equiv.symm_apply_apply]
      exact decide_eq_true (idx2_eq rfl rfl)
    · show val_main_v21 (F := Ideal) x2 x3 (S8x8192x8192.rowMajor.symm (S8x8192x8192.rowMajor (ix3 h a a))) = _
      rw [Equiv.symm_apply_apply, logit_at, if_pos (le_refl _), hr, Cert.Softmax.log_two, ← EReal.coe_mul]
  obtain ⟨s, hs⟩ := top
  refine ⟨s, fun b => ?_⟩
  rw [val_main_v26_apply, val_main_v25_apply, val_main_v24_apply,
    show idx_main_v25 (idx_main_v26 (ix3 h a b)) = ix2 h a from idx2_eq rfl rfl, hs]
  show max (val_main_v23 (F := Ideal) (ix2 h a)) (s : EReal) = s
  rw [val_main_v23_apply]
  show max (Ideal.ofBits .f32 0xFF800000#32) (s : EReal) = s
  rw [word_bot]
  exact max_eq_right bot_le

/-- The attention of one head at a row: the quotient of two causal sums. -/
theorem mixed_at (h2 : Finite x2) (h3 : Finite x3) (h : Fin 8) (a : Fin 8192) (e : Fin 64) :
    val_main_v33 (F := Ideal) x2 x3 x4 (ix3 h a e)
      = Ideal.div (∑ b : Fin 8192, (if b.val ≤ a.val then Ideal.exp2 (score x2 x3 h a b) else 0) * x4 (ix2 b ⟨64 * h.val + e.val, by omega⟩))
          (∑ b : Fin 8192, (if b.val ≤ a.val then Ideal.exp2 (score x2 x3 h a b) else 0) * 1) := by
  obtain ⟨s, hs⟩ := shift_at x2 x3 h2 h3 h a
  choose x hx using fun b => score_real x2 x3 h2 h3 h a b
  have hw : ∀ b : Fin 8192, val_main_v28 (F := Ideal) x2 x3 (ix3 h a b)
      = Ideal.exp ((if b.val ≤ a.val then (x b : EReal) * Ideal.log 2 else ⊥) - (s : EReal)) := fun b => by
    rw [val_main_v28_apply, val_main_v27_apply, logit_at, hs, hx]
    rfl
  have hd : ∀ b : Fin 8192, val_main_v31 (F := Ideal) x2 x3 (ix3 h a b)
      = 0 + ∑ b' : Fin 8192, Ideal.exp ((if b'.val ≤ a.val then (x b' : EReal) * Ideal.log 2 else ⊥) - (s : EReal)) := fun b => by
    rw [val_main_v31_apply, val_main_v30_apply, val_main_v29_apply]
    refine congrArg₂ (· + ·) ?_ (Finset.sum_congr rfl fun b' _ => ?_)
    · show Ideal.ofBits .f32 0x00000000#32 = 0
      simp [Ideal.ofBits, Ideal.ieee]
    · rw [← hw b']
      exact congrArg (val_main_v28 (F := Ideal) x2 x3) (idx3_eq rfl rfl rfl)
  rw [val_main_v33_apply]
  refine Eq.trans (Finset.sum_congr rfl fun b _ => ?_) ((Cert.Softmax.average (fun b : Fin 8192 => b.val ≤ a.val) x
    (fun b => x4 (ix2 b ⟨64 * h.val + e.val, by omega⟩)) s a (le_refl _)).trans ?_)
  · rw [show lidx_main_v33 (ix3 h a e) b = ix3 h a b from idx3_eq rfl rfl rfl,
      show ridx_main_v33 (ix3 h a e) b = ix3 h b e from idx3_eq rfl rfl rfl, val_main_v32_apply, hw, hd, value_at]
    rfl
  · simp only [hx]

/-- The reference's result at an index. -/
theorem result_at (h2 : Finite x2) (h3 : Finite x3) (a : Fin 8192) (o : Fin 512) :
    val_main_v44 (F := Ideal) x2 x3 x4 x5 (ix2 a o)
      = Ideal.div (∑ b : Fin 8192, (if b.val ≤ a.val then Ideal.exp2 (score x2 x3 ⟨o.val / 64, by omega⟩ a b) else 0) * x4 (ix2 b o))
          (∑ b : Fin 8192, (if b.val ≤ a.val then Ideal.exp2 (score x2 x3 ⟨o.val / 64, by omega⟩ a b) else 0) * 1)
        * sigm (x5 (ix2 a ⟨1536 + o.val, by omega⟩)) := by
  have hg : val_main_v42 (F := Ideal) x5 (ix2 a o) = sigm (x5 (ix2 a ⟨1536 + o.val, by omega⟩)) := by
    rw [val_main_v42_apply, val_main_v41_apply, val_main_v40_apply, val_main_v39_apply, val_main_v38_apply, val_main_v37_apply, val_main_v36_apply,
      show idx_main_v36 (ix2 a o) = ix2 a ⟨1536 + o.val, by omega⟩ from idx2_eq rfl rfl]
    show Ideal.div (Ideal.ofBits .f32 0x3F800000#32) (Ideal.ofBits .f32 0x3F800000#32 + Ideal.exp (-(x5 (ix2 a ⟨1536 + o.val, by omega⟩)))) = _
    rw [word_one]
    rfl
  rw [val_main_v44_apply, val_main_v43_apply, hg, val_main_v35_apply, val_main_v34_apply,
    show idx_main_v34 (idx_main_v35 (ix2 a o)) = ix3 (⟨o.val / 64, by omega⟩ : Fin 8) a (⟨o.val % 64, by omega⟩ : Fin 64) from
      idx3_eq (by show (a.val * 512 + o.val) / 64 % 8 = o.val / 64; omega) (by show (a.val * 512 + o.val) / 512 = a.val; omega)
        (by show (a.val * 512 + o.val) % 64 = o.val % 64; omega),
    mixed_at x2 x3 x4 h2 h3]
  have hc : (⟨64 * (o.val / 64) + o.val % 64, by omega⟩ : Fin 512) = o := Fin.ext (Nat.div_add_mod _ _)
  simp only [hc]
  rfl

end Cert.FoxRefIdeal.Own

end
-- ==== Proof.Fox.Meet.lean ====
/-
  THE FORGETTING ATTENTION'S TWO SIDES MEET: on queries and keys of finite elements, the reference's result at an index is
  the quotient the kernel writes there.
-/
module

public import proofs.«01_k».proof.Proof.Fox.Array
public import proofs.«01_k».proof.Proof.Fox.Ref

@[expose] public section

noncomputable section

namespace Cert.FoxIdeal.Own

open Cert.Layer Idealize.ShloMosaic Idealize.ShloMosaic.TcCoe

variable (V : FVec Ideal ⟨2, ![8192, 512]⟩ .bf16)

/-- The value columns of the extended values. -/
theorem value_low (b : Fin 8192) (o : Fin 512) : value V ⟨o.val / 64, by omega⟩ b ⟨o.val % 128, by omega⟩ = V (ix2 b o) := by
  unfold value ext
  rw [dif_pos (show o.val % 128 < 128 by omega)]
  exact congrArg V (idx2_eq rfl (by show 128 * (o.val / 64 / 2) + o.val % 128 = o.val; omega))

/-- The columns of ones. -/
theorem value_high (h : Fin 8) (b : Fin 8192) (j : ℕ) (hj : j < 128) : value V h b ⟨128 + j, by omega⟩ = 1 := by
  unfold value ext
  rw [dif_neg (show ¬128 + j < 128 by omega)]

variable (Q K : FVec Ideal ⟨2, ![8192, 1024]⟩ .bf16) (Z : FVec Ideal ⟨2, ![8192, 8192]⟩ .f32)

theorem meet (hQ : Cert.FoxRefIdeal.Own.Finite Q) (hK : Cert.FoxRefIdeal.Own.Finite K) (a : Fin 8192) (o : Fin 512) :
    Cert.FoxRefIdeal.Read.val_main_v44 (F := Ideal) Q K V Z (ix2 a o) = attended Q K V Z a o := by
  refine (Cert.FoxRefIdeal.Own.result_at Q K V Z hQ hK a o).trans ?_
  unfold attended total
  simp only [value_low]
  simp only [value_high V _ _ _ (Nat.mod_lt o.val (by norm_num : 0 < 128))]
  rfl

end Cert.FoxIdeal.Own

end
-- ==== Proof.Fox.Tables.lean ====
/-
  THE PRECONDITIONS DECODED: the two tables of a launch are the ones the schedule is generated at, and every element of
  the queries and of the keys is a real number.
-/
module

public import proofs.«01_k».proof.Defs
public import proofs.«01_k».proof.Proof.Gen.Pre_fox_tables
public import proofs.«01_k».proof.Proof.Gen.Pre_fox_finite
public import proofs.«01_k».proof.Proof.Gen.Fox.Flash.Pins
public import proofs.«01_k».proof.Proof.Gen.FoxIdeal.Flash.Pins

@[expose] public section

noncomputable section

namespace Cert.Tables

open Idealize.ShloMosaic Idealize.ShloMosaic.TcCoe

/-- A comparison's bit is one exactly where the comparison holds. -/
theorem bit_one (p : Bool) (h : BitVec.ofBool p = 1#1) : p = true := by cases p <;> first | rfl | exact absurd h (by decide)

/-- Both preconditions' tables, read row by row, are the generated schedule's. -/
theorem tables_rows : ∀ x : Pre_fox_tables.S136.Idx, Pre_fox_tables.lit0 (Pre_fox_tables.S136.rowMajor x) = Cert.FoxIdeal.Gen.pinT_0 0 x := by
  decide +kernel

theorem tables_cols : ∀ x : Pre_fox_tables.S136.Idx, Pre_fox_tables.lit1 (Pre_fox_tables.S136.rowMajor x) = Cert.FoxIdeal.Gen.pinT_1 0 x := by
  decide +kernel

theorem finite_rows : ∀ x : Pre_fox_finite.S136.Idx, Pre_fox_finite.lit0 (Pre_fox_finite.S136.rowMajor x) = Cert.FoxIdeal.Gen.pinT_0 0 x := by
  decide +kernel

theorem finite_cols : ∀ x : Pre_fox_finite.S136.Idx, Pre_fox_finite.lit1 (Pre_fox_finite.S136.rowMajor x) = Cert.FoxIdeal.Gen.pinT_1 0 x := by
  decide +kernel

/-- Words whose comparison with a table is one everywhere are that table. -/
theorem words_eq {s : Shape} (x y : IVec s 32) (h : cmpi .eq x y = fun _ => 1#1) (i : s.Idx) : x i = y i := by
  have e := bit_one _ (congrFun h i)
  exact beq_iff_eq.mp e

/-- The tables of the first precondition are the schedule's, whatever floats the program is read at. -/
theorem fox_pinned (m : (ℓ : Loc Cert.Fox.nD Cert.Fox.τ Cert.Fox.sig) → Buf (Elt Bits) ℓ) (h : Cert.Pre_Fox m) : Cert.Fox.Gen.Pinned 0 m :=
  ⟨fun c => funext fun x => (words_eq _ _ (h c).1 x).trans (tables_rows x), fun c => funext fun x => (words_eq _ _ (h c).2 x).trans (tables_cols x)⟩

theorem fox_pinned_finite (m : (ℓ : Loc Cert.Fox.nD Cert.Fox.τ Cert.Fox.sig) → Buf (Elt Bits) ℓ) (h : Cert.Pre_Fox_fox_finite m) :
    Cert.Fox.Gen.Pinned 0 m :=
  ⟨fun c => funext fun x => (words_eq _ _ (h c).1 x).trans (finite_rows x), fun c => funext fun x => (words_eq _ _ (h c).2.1 x).trans (finite_cols x)⟩

theorem ideal_pinned (m : (ℓ : Loc Cert.FoxIdeal.nD Cert.FoxIdeal.τ Cert.FoxIdeal.sig) → Buf (Elt Ideal) ℓ) (h : Cert.Pre_FoxIdeal m) :
    Cert.FoxIdeal.Gen.Pinned 0 m :=
  ⟨fun c => funext fun x => (words_eq _ _ (h c).1 x).trans (tables_rows x), fun c => funext fun x => (words_eq _ _ (h c).2 x).trans (tables_cols x)⟩

theorem ideal_pinned_finite (m : (ℓ : Loc Cert.FoxIdeal.nD Cert.FoxIdeal.τ Cert.FoxIdeal.sig) → Buf (Elt Ideal) ℓ) (h : Cert.Pre_FoxIdeal_fox_finite m) :
    Cert.FoxIdeal.Gen.Pinned 0 m :=
  ⟨fun c => funext fun x => (words_eq _ _ (h c).1 x).trans (finite_rows x), fun c => funext fun x => (words_eq _ _ (h c).2.1 x).trans (finite_cols x)⟩

/-- The printed word of infinity. -/
theorem word_top : Ideal.ofBits .bf16 0x7F80#16 = ⊤ := by
  simp [Ideal.ofBits, Ideal.ieee]

/-- A value below infinity in size is a real number. -/
theorem real_of_lt (x : EReal) (h : max x (-x) < ⊤) : ∃ r : ℝ, x = r := by
  induction x with
  | bot => exact absurd h (by simp)
  | top => exact absurd h (by simp)
  | coe r => exact ⟨r, rfl⟩

theorem queries_real (m : (ℓ : Loc Cert.FoxIdeal.nD Cert.FoxIdeal.τ Cert.FoxIdeal.sig) → Buf (Elt Ideal) ℓ) (h : Cert.Pre_FoxIdeal_fox_finite m)
    (c : Dev Cert.FoxIdeal.nD) (i : Pre_fox_finite.S8192x1024.Idx) :
    ∃ r : ℝ, (m ((c : Thread Cert.FoxIdeal.nD Cert.FoxIdeal.τ).loc Cert.FoxIdeal.main_arg2) : FVec Ideal Pre_fox_finite.S8192x1024 .bf16) i = (r : EReal) := by
  have e := of_decide_eq_true (bit_one _ (congrFun (h c).2.2.1 i))
  refine real_of_lt _ (lt_of_lt_of_eq e ?_)
  exact word_top

theorem keys_real (m : (ℓ : Loc Cert.FoxIdeal.nD Cert.FoxIdeal.τ Cert.FoxIdeal.sig) → Buf (Elt Ideal) ℓ) (h : Cert.Pre_FoxIdeal_fox_finite m)
    (c : Dev Cert.FoxIdeal.nD) (i : Pre_fox_finite.S8192x1024.Idx) :
    ∃ r : ℝ, (m ((c : Thread Cert.FoxIdeal.nD Cert.FoxIdeal.τ).loc Cert.FoxIdeal.main_arg3) : FVec Ideal Pre_fox_finite.S8192x1024 .bf16) i = (r : EReal) := by
  have e := of_decide_eq_true (bit_one _ (congrFun (h c).2.2.2 i))
  refine real_of_lt _ (lt_of_lt_of_eq e ?_)
  exact word_top

end Cert.Tables

end
-- ==== Proof.InProj.Block.lean ====
/-
  WHAT ONE GRID POINT OF THE INPUT PROJECTION COMPUTES: the found stores of the two cases of the body, read back as
  values, and these values at an index. At the first column tile the normed row block is put into the scratch; at every
  tile the output block is the scratch times the weight tile.
-/
module

public import proofs.«01_k».proof.Proof.Gen.InProjIdeal.Value
public import proofs.«01_k».proof.Proof.Norm
public import Idealize.ShloMosaic.Lib.Exec

@[expose] public section

noncomputable section

namespace Cert.InProjIdeal.Own

open Cert.InProjIdeal Cert.InProjIdeal.Gen Cert.Layer Idealize.ShloMosaic Idealize.ShloMosaic.TcCoe

variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S2048x1024 .bf16) (h4 : a4.IsWhole)
  (a5 : Memref sig .tc .vmem S1024x1024 .f32) (h5 : a5.IsWhole) (a6 : Memref sig .tc .vmem S1024x2048 .bf16) (h6 : a6.IsWhole)

section
variable (x0 : Vec Ideal S1024x2048 .f32) (x1 : Vec Ideal S1x2048 .f32) (x2 : Vec Ideal S2048x1024 .bf16) (s : Vec Ideal S1024x2048 .bf16)

/-- First column tile: the scratch ends holding the normed row block. -/
theorem sout_A (hc : cond0_0 i) : sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero corner]
  simp only [View.readAt_eq_ld, h2.read_unread, h3.read_unread, View.ld_unit_zero (S := S1024x2048) corner, View.ld_unit_zero (S := S1x2048) corner]

/-- First column tile: the output block is the normed row block times the weight tile. -/
theorem out_A (hc : cond0_0 i) : out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero corner, View.readCov_unit_zero (S := S1024x2048) _ corner]
  simp only [View.readAt_eq_ld, h2.read_unread, h3.read_unread, h4.read_unread, View.ld_unit_zero (S := S1024x2048) corner, View.ld_unit_zero (S := S1x2048) corner, View.ld_unit_zero (S := S2048x1024) corner]

/-- Later column tiles: the output block is the scratch times the weight tile. -/
theorem out_B (hc : ¬cond0_0 i) : out0_B_3 c i a2 h2 a3 h3 a4 h4 a5 h5 a6 h6 hc x0 x1 x2 s = k0_pay2 s x2 := by
  unfold out0_B_3
  rw [View.read_writes_eq_canon _ _ _ (cover0_B_3 c i a2 h2 a3 h3 a4 h4 a5 h5 a6 h6 hc x0 x1 x2 s)]
  unfold kernelRun0_B
  dsimp only
  rw [View.canon_unit_zero corner]
  simp only [View.readAt_eq_ld, h4.read_unread, h6.read_unread, View.ld_unit_zero (S := S1024x2048) corner, View.ld_unit_zero (S := S2048x1024) corner]

/-- Later column tiles leave the scratch as it was. -/
theorem sout_B (hc : ¬cond0_0 i) : sout0_B_0 c i a2 h2 a3 h3 a4 h4 a5 h5 a6 h6 hc x0 x1 x2 s = s := rfl

/-- The normed row block at an index. -/
theorem pay1_apply (r : Fin 1024) (k : Fin 2048) :
    k0_pay1 x0 x1 (ix2 r k) = rmsn (fun q => x0 (ix2 r q)) (fun q => x1 (ix2 0 q)) k := by
  unfold k0_pay1 rmsn
  pointwise

/-- The product with the weight tile at an index. -/
theorem pay2_apply (r : Fin 1024) (j : Fin 1024) : k0_pay2 s x2 (ix2 r j) = ∑ k : Fin 2048, s (ix2 r k) * x2 (ix2 k j) := by
  unfold k0_pay2
  pointwise [dot_S1024x2048_S2048x1024_S1024x1024_1_0_0_1_n_n]
end

end Cert.InProjIdeal.Own

end
-- ==== Proof.InProj.Array.lean ====
/-
  WHAT THE INPUT PROJECTION'S RESULT ARRAY HOLDS: the blocks the windows read, placed in the arguments; what every grid
  point leaves in the output block and in the scratch; and so the array after the run, element by element: the normed
  row times the weight's column.
-/
module

public import proofs.«01_k».proof.Proof.InProj.Block

@[expose] public section

noncomputable section

namespace Cert.InProjIdeal.Own

open Cert.InProjIdeal Cert.InProjIdeal.Gen Cert.Layer Idealize.ShloMosaic Idealize.ShloMosaic.TcCoe

variable (m : (ℓ : Loc nD τ sig) → Buf (Elt Ideal) ℓ) (c : Dev nD)

/-- The input array, the gain vector and the weight, as launched. -/
abbrev X : FVec Ideal ⟨2, ![8192, 2048]⟩ .f32 := m ((c : Thread nD τ).loc main_arg0)
abbrev G : FVec Ideal ⟨1, ![2048]⟩ .f32 := m ((c : Thread nD τ).loc main_arg1)
abbrev W : FVec Ideal ⟨2, ![2048, 8192]⟩ .bf16 := m ((c : Thread nD τ).loc main_arg2)

/-- The block numbers of the three input windows at a grid point. -/
theorem at_win : ∀ t : Fin cfg0.N, (win0_0.index t 0 = t.val / 8 ∧ win0_0.index t 1 = 0)
    ∧ (win0_1.index t 0 = 0 ∧ win0_1.index t 1 = 0) ∧ (win0_2.index t 0 = 0 ∧ win0_2.index t 1 = t.val % 8) :=
  (by decide +kernel : ∀ t : Fin grid0.N, _)

/-- The reshaped gain that the region finds. -/
theorem gain_at (k : Fin 2048) : (V m c main_v0 : FVec Ideal S1x2048 .f32) (ix2 0 k) = G m c (ix1 k) := by
  have e : (V m c main_v0 : FVec Ideal S1x2048 .f32) = shapeCast S1x2048 (G m c) shapeCasts_S2048_S1x2048 := by
    unfold V hostOps0
    after_results
    rfl
  rw [e]
  pointwise

/-- Row block `t / 8` of the input. -/
theorem blk0 (t : Fin cfg0.N) (r : Fin 1024) (k : Fin 2048) (R : Fin 8192) (hR : R.val = 1024 * (t.val / 8) + r.val) :
    (iblk m c 0 t : FVec Ideal S1024x2048 .f32) (ix2 r k) = X m c (ix2 R k) := by
  obtain ⟨⟨e0, e1⟩, -, -⟩ := at_win t
  unfold iblk
  rw [View.read_apply]
  show V m c main_arg0 _ = _
  rw [V_main_arg0]
  refine congrArg (m ((c : Thread nD τ).loc main_arg0)) (idx2_eq ?_ ?_)
  · show win0_0.index t 0 * 1024 + 1 * r.val = R.val; rw [e0]; omega
  · show win0_0.index t 1 * 2048 + 1 * k.val = k.val; rw [e1]; omega

/-- The gain row. -/
theorem blk1 (t : Fin cfg0.N) (k : Fin 2048) : (iblk m c 1 t : FVec Ideal S1x2048 .f32) (ix2 0 k) = G m c (ix1 k) := by
  obtain ⟨-, ⟨e0, e1⟩, -⟩ := at_win t
  rw [← gain_at]
  unfold iblk
  rw [View.read_apply]
  show V m c main_v0 _ = _
  refine congrArg (V m c main_v0) (idx2_eq ?_ ?_)
  · show win0_1.index t 0 * 1 + 1 * 0 = 0; rw [e0]
  · show win0_1.index t 1 * 2048 + 1 * k.val = k.val; rw [e1]; omega

/-- Column tile `t % 8` of the weight. -/
theorem blk2 (t : Fin cfg0.N) (k : Fin 2048) (j : Fin 1024) (J : Fin 8192) (hJ : J.val = 1024 * (t.val % 8) + j.val) :
    (iblk m c 2 t : FVec Ideal S2048x1024 .bf16) (ix2 k j) = W m c (ix2 k J) := by
  obtain ⟨-, -, e0, e1⟩ := at_win t
  unfold iblk
  rw [View.read_apply]
  show V m c main_arg2 _ = _
  rw [V_main_arg2]
  refine congrArg (m ((c : Thread nD τ).loc main_arg2)) (idx2_eq ?_ ?_)
  · show win0_2.index t 0 * 2048 + 1 * k.val = k.val; rw [e0]; omega
  · show win0_2.index t 1 * 1024 + 1 * j.val = J.val; rw [e1]; omega

/-- The normed row block stored at a first column tile. -/
theorem stored (t : Fin cfg0.N) (r : Fin 1024) (k : Fin 2048) (R : Fin 8192) (hR : R.val = 1024 * (t.val / 8) + r.val) :
    k0_pay1 (iblk m c 0 t : FVec Ideal S1024x2048 .f32) (iblk m c 1 t : FVec Ideal S1x2048 .f32) (ix2 r k) = normed (X m c) (G m c) R k := by
  rw [pay1_apply]
  unfold normed
  congr 1
  · funext q; exact blk0 m c t r q R hR
  · funext q; exact blk1 m c t q

/-- The scratch after any grid point: the normed rows of that point's row block. -/
theorem scratch : ∀ (n : ℕ) (hn : n < cfg0.N) (r : Fin 1024) (k : Fin 2048) (R : Fin 8192), R.val = 1024 * (n / 8) + r.val →
    (outsAt0 m c n hn).2 (ix2 r k) = normed (X m c) (G m c) R k := by
  intro n
  induction n with
  | zero =>
    intro hn r k R hR
    rw [outsAt0_A m c ⟨0, hn⟩ rfl]
    dsimp only
    rw [sout_A]
    exact stored m c ⟨0, hn⟩ r k R hR
  | succ n ih =>
    intro hn r k R hR
    by_cases h0 : (n + 1) % 8 = 0
    · rw [outsAt0_A m c ⟨n + 1, hn⟩ h0]
      dsimp only
      rw [sout_A]
      exact stored m c ⟨n + 1, hn⟩ r k R hR
    · rw [outsAt0_B m c ⟨n + 1, hn⟩ h0]
      dsimp only
      rw [sout_B]
      exact ih _ r k R (by omega)

/-- The output block after any grid point: the normed rows times the columns of that point's weight tile. -/
theorem block (t : Fin cfg0.N) (r : Fin 1024) (j : Fin 1024) (R J : Fin 8192) (hR : R.val = 1024 * (t.val / 8) + r.val)
    (hJ : J.val = 1024 * (t.val % 8) + j.val) :
    (outsAt0 m c t.val t.isLt).1 (ix2 r j) = ∑ k : Fin 2048, normed (X m c) (G m c) R k * W m c (ix2 k J) := by
  by_cases h0 : t.val % 8 = 0
  · rw [outsAt0_A m c t h0]
    dsimp only
    rw [out_A, pay2_apply]
    exact Finset.sum_congr rfl fun k _ => congrArg₂ (· * ·) (stored m c t r k R hR) (blk2 m c t k j J hJ)
  · rw [outsAt0_B m c t h0]
    dsimp only
    rw [out_B, pay2_apply]
    exact Finset.sum_congr rfl fun k _ => congrArg₂ (· * ·) (scratch m c _ _ r k R (by omega)) (blk2 m c t k j J hJ)

/-- The array after the run, at an index. -/
theorem array_at (R J : Fin 8192) :
    (Value.G3 m c : FVec Ideal S8192x8192 .f32) (ix2 R J) = ∑ k : Fin 2048, normed (X m c) (G m c) R k * W m c (ix2 k J) := by
  have hN : cfg0.N = 64 := N_0
  have hp : Value.pt3Of (ix2 R J) < cfg0.N := by
    show 8 * (R.val / 1024 - 0) + 1 * (J.val / 1024 - 0) < _; omega
  unfold Value.G3
  rw [dif_pos hp, ← Value.outsAt0_sweep m c _ hp]
  have el : Value.loc3Of (ix2 R J) = ix2 (n0 := 1024) (n1 := 1024) ⟨R.val % 1024, by omega⟩ ⟨J.val % 1024, by omega⟩ := idx2_eq rfl rfl
  rw [el]
  refine block m c ⟨_, hp⟩ _ _ R J ?_ ?_
  · show R.val = 1024 * ((8 * (R.val / 1024 - 0) + 1 * (J.val / 1024 - 0)) / 8) + R.val % 1024; omega
  · show J.val = 1024 * ((8 * (R.val / 1024 - 0) + 1 * (J.val / 1024 - 0)) % 8) + J.val % 1024; omega

end Cert.InProjIdeal.Own

end
-- ==== Proof.InProj.Ref.lean ====
/-
  WHAT THE INPUT PROJECTION'S REFERENCE COMPUTES, element by element: the normed row times the weight's column.
-/
module

public import proofs.«01_k».proof.Proof.Gen.InProjRefIdeal.Read
public import proofs.«01_k».proof.Proof.Norm

@[expose] public section

noncomputable section

namespace Cert.InProjRefIdeal.Own

open Cert.InProjRefIdeal Cert.InProjRefIdeal.Gen Cert.InProjRefIdeal.Read Cert.Layer Idealize.ShloMosaic Idealize.ShloMosaic.TcCoe

/-- The reference's normed array at an index. -/
theorem norm_at (x0 : FVec Ideal S8192x2048 .f32) (x1 : FVec Ideal S2048 .f32) (R : Fin 8192) (k : Fin 2048) :
    val_main_v12 (F := Ideal) x0 x1 (ix2 R k) = normed x0 x1 R k := by
  unfold normed rmsn val_main_v12 val_main_v11 val_main_v10 val_main_v9 val_main_v8 val_main_v7 val_main_v6 val_main_v5 val_main_v4 val_main_v3 val_main_v2 val_main_v1 val_main_v0 val_main_cst val_main_cst_0 val_main_cst_1
  pointwise

/-- The reference's result at an index. -/
theorem result_at (x0 : FVec Ideal S8192x2048 .f32) (x1 : FVec Ideal S2048 .f32) (x2 : FVec Ideal S2048x8192 .bf16) (R J : Fin 8192) :
    val_main_v14 (F := Ideal) x0 x1 x2 (ix2 R J) = ∑ k : Fin 2048, normed x0 x1 R k * x2 (ix2 k J) := by
  rw [val_main_v14_apply]
  refine Finset.sum_congr rfl fun k _ => congrArg₂ (· * ·) ?_ ?_
  · rw [show lidx_main_v14 (ix2 R J) k = ix2 R k from idx2_eq rfl rfl]; exact norm_at x0 x1 R k
  · rw [show ridx_main_v14 (ix2 R J) k = ix2 k J from idx2_eq rfl rfl]; rfl

end Cert.InProjRefIdeal.Own

end
-- ==== Proof.Ffn.Block.lean ====
/-
  WHAT ONE GRID POINT OF THE FEED-FORWARD CALL COMPUTES: the found stores of the two cases of the body, read back as
  values, and these values at an index. At the first slice of the hidden axis the normed row block is put into the
  scratch and the input rows into the output block; at every slice the output block gains that slice's share of the
  gated product, half of 512 hidden units after the other.
-/
module

public import proofs.«01_k».proof.Proof.Gen.FfnIdeal.Value
public import proofs.«01_k».proof.Proof.Norm
public import Idealize.ShloMosaic.Lib.Exec

@[expose] public section

noncomputable section

namespace Cert.FfnIdeal.Own

open Cert.FfnIdeal Cert.FfnIdeal.Gen Cert.Layer Idealize.ShloMosaic Idealize.ShloMosaic.TcCoe

variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S2048x512 .bf16) (h4 : a4.IsWhole)
  (a5 : Memref sig .tc .vmem S2048x512 .bf16) (h5 : a5.IsWhole) (a6 : Memref sig .tc .vmem S512x2048 .bf16) (h6 : a6.IsWhole)
  (a7 : Memref sig .tc .vmem S1024x2048 .f32) (h7 : a7.IsWhole) (a8 : Memref sig .tc .vmem S1024x2048 .bf16) (h8 : a8.IsWhole)

/-- The left and the right 256 columns of a weight tile, and the upper and the lower 256 rows of the output weight's tile. -/
abbrev lft (w : Vec Ideal S2048x512 .bf16) : Vec Ideal S2048x256 .bf16 :=
  View.ld w (Rect.unit (s := S2048x512) ![0, 0] S2048x256.size inb_S2048x512_S2048x256_0_0)
abbrev rgt (w : Vec Ideal S2048x512 .bf16) : Vec Ideal S2048x256 .bf16 :=
  View.ld w (Rect.unit (s := S2048x512) ![0, 256] S2048x256.size inb_S2048x512_S2048x256_0_256)
abbrev upr (w : Vec Ideal S512x2048 .bf16) : Vec Ideal S256x2048 .bf16 :=
  View.ld w (Rect.unit (s := S512x2048) ![0, 0] S256x2048.size inb_S512x2048_S256x2048_0_0)
abbrev lwr (w : Vec Ideal S512x2048 .bf16) : Vec Ideal S256x2048 .bf16 :=
  View.ld w (Rect.unit (s := S512x2048) ![256, 0] S256x2048.size inb_S512x2048_S256x2048_256_0)

/-- One slice's step on the output block `o`, from the scratch `s` and the three weight tiles. -/
def slice (s : Vec Ideal S1024x2048 .bf16) (w1 w3 : Vec Ideal S2048x512 .bf16) (w2 : Vec Ideal S512x2048 .bf16)
    (o : Vec Ideal S1024x2048 .f32) : Vec Ideal S1024x2048 .f32 :=
  k0_pay1 (k0_pay3 s (lft w1) (lft w3) (upr w2)) (k0_pay4 s (rgt w1)) (k0_pay5 s (rgt w3)) (k0_pay6 s (rgt w1))
    (Scalar.ofBits .f32 0x3F800000#32) (lwr w2) o

section
variable (x0 : Vec Ideal S1024x2048 .f32) (x1 : Vec Ideal S1x2048 .f32) (x2 x3 : Vec Ideal S2048x512 .bf16)
  (x4 : Vec Ideal S512x2048 .bf16) (o : Vec Ideal S1024x2048 .f32) (s : Vec Ideal S1024x2048 .bf16)

/-- First slice: the scratch ends holding the normed row block. -/
theorem sout_A (hc : cond0_0 i) : sout0_A_0 c i a2 h2 a3 h3 a4 h4 a5 h5 a6 h6 a7 h7 a8 h8 hc x0 x1 x2 x3 x4 = k0_pay2 x0 x1 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero corner]
  simp only [View.readAt_eq_ld, h2.read_unread, h3.read_unread, View.ld_unit_zero (S := S1024x2048) corner, View.ld_unit_zero (S := S1x2048) corner]

/-- First slice: the output block is the step on the input rows, from the normed row block. -/
theorem out_A (hc : cond0_0 i) :
    out0_A_5 c i a2 h2 a3 h3 a4 h4 a5 h5 a6 h6 a7 h7 a8 h8 hc x0 x1 x2 x3 x4 = slice (k0_pay2 x0 x1) x2 x3 x4 x0 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_cons_unit_zero (S := S1024x2048) corner]
  simp only [View.readCov_unit_zero (S := S1024x2048) _ corner, View.readAt_eq_ld, h2.read_unread, h3.read_unread, h4.read_unread, h5.read_unread, h6.read_unread, View.ld_unit_zero (S := S1024x2048) corner, View.ld_unit_zero (S := S1x2048) corner]
  simp only [slice, lft, rgt, upr, lwr]

/-- Later slices: the output block is the step on what the slice before left, from the scratch. -/
theorem out_B (hc : ¬cond0_0 i) :
    out0_B_5 c i a2 h2 a3 h3 a4 h4 a5 h5 a6 h6 a7 h7 a8 h8 hc x0 x1 x2 x3 x4 o s = slice s x2 x3 x4 o := by
  unfold out0_B_5
  rw [View.read_writes_eq_canon _ _ _ (cover0_B_5 c i a2 h2 a3 h3 a4 h4 a5 h5 a6 h6 a7 h7 a8 h8 hc x0 x1 x2 x3 x4 o s)]
  unfold kernelRun0_B
  dsimp only
  sl_unfold_words
  rw [View.canon_unit_zero corner]
  simp only [View.readAt_eq_ld, h4.read_unread, h5.read_unread, h6.read_unread, h7.read_unread, h8.read_unread, View.ld_unit_zero (S := S1024x2048) corner]
  simp only [slice, lft, rgt, upr, lwr]

/-- Later slices leave the scratch as it was. -/
theorem sout_B (hc : ¬cond0_0 i) : sout0_B_0 c i a2 h2 a3 h3 a4 h4 a5 h5 a6 h6 a7 h7 a8 h8 hc x0 x1 x2 x3 x4 o s = s := rfl

/-- The normed row block at an index. -/
theorem norm_apply (r : Fin 1024) (k : Fin 2048) :
    k0_pay2 x0 x1 (ix2 r k) = rmsn (fun q => x0 (ix2 r q)) (fun q => x1 (ix2 0 q)) k := by
  unfold k0_pay2 rmsn
  pointwise

/-- The step at an index: the 512 hidden units of the slice, gated, times the output weight's column. -/
theorem slice_apply (r : Fin 1024) (j : Fin 2048) : slice s x2 x3 x4 o (ix2 r j) = o (ix2 r j)
    + ∑ q : Fin 512, gated (∑ k : Fin 2048, s (ix2 r k) * x2 (ix2 k q)) (∑ k : Fin 2048, s (ix2 r k) * x3 (ix2 k q)) * x4 (ix2 q j) := by
  rw [Fin.sum_univ_two_halves 256 256 rfl]
  unfold slice gated sigm
  unfold_payloads
  pointwise [dot_S1024x2048_S2048x256_S1024x256_1_0_0_1_n_n, dot_S1024x256_S256x2048_S1024x2048_1_0_0_1_n_n, word_one, zero_sub, lft, rgt, upr, lwr]
end

end Cert.FfnIdeal.Own

end
-- ==== Proof.Ffn.Unit.lean ====
/-
  ONE HIDDEN UNIT of the feed-forward network, as an extended-real formula both programs come down to.
-/
module

public import proofs.«01_k».proof.Proof.Norm

@[expose] public section

noncomputable section

namespace Cert.Layer

open Idealize.ShloMosaic

/-- Hidden unit `p` of row `R`, with its factor one half: the two products of the normed row, gated. -/
def hid (X : FVec Ideal ⟨2, ![8192, 2048]⟩ .f32) (G : FVec Ideal ⟨1, ![2048]⟩ .f32) (W1 W3 : FVec Ideal ⟨2, ![2048, 5632]⟩ .bf16)
    (R : Fin 8192) (p : Fin 5632) : EReal :=
  gated (∑ k : Fin 2048, normed X G R k * W1 (ix2 k p)) (∑ k : Fin 2048, normed X G R k * W3 (ix2 k p))

/-- A sum over `11` tiles of `512`, added tile by tile, of a term given at every natural position. -/
theorem tiles_sum (f : ℕ → EReal) : ∑ p : Fin 5632, f p.val = ∑ j ∈ Finset.range 11, ∑ q : Fin 512, f (512 * j + q.val) := by
  rw [Fin.sum_univ_tiles 11 512 (by norm_num) (fun p => f p.val), Finset.sum_range]
  exact Finset.sum_congr rfl fun j _ => Finset.sum_congr rfl fun q _ => congrArg f (by dsimp only; omega)

end Cert.Layer

end
-- ==== Proof.Ffn.Array.lean ====
/-
  WHAT THE FEED-FORWARD CALL'S RESULT ARRAY HOLDS: the blocks the windows read, placed in the arguments; what every grid
  point leaves in the scratch and, slice after slice, in the output block; and so the array after the run, element by
  element: the input plus the sum over all hidden units.
-/
module

public import proofs.«01_k».proof.Proof.Ffn.Block
public import proofs.«01_k».proof.Proof.Ffn.Unit

@[expose] public section

noncomputable section

namespace Cert.FfnIdeal.Own

open Cert.FfnIdeal Cert.FfnIdeal.Gen Cert.Layer Idealize.ShloMosaic Idealize.ShloMosaic.TcCoe

variable (m : (ℓ : Loc nD τ sig) → Buf (Elt Ideal) ℓ) (c : Dev nD)

/-- The input array, the gain vector and the three weights, as launched. -/
abbrev X : FVec Ideal ⟨2, ![8192, 2048]⟩ .f32 := m ((c : Thread nD τ).loc main_arg0)
abbrev G : FVec Ideal ⟨1, ![2048]⟩ .f32 := m ((c : Thread nD τ).loc main_arg1)
abbrev W1 : FVec Ideal ⟨2, ![2048, 5632]⟩ .bf16 := m ((c : Thread nD τ).loc main_arg2)
abbrev W3 : FVec Ideal ⟨2, ![2048, 5632]⟩ .bf16 := m ((c : Thread nD τ).loc main_arg3)
abbrev W2 : FVec Ideal ⟨2, ![5632, 2048]⟩ .bf16 := m ((c : Thread nD τ).loc main_arg4)

/-- The block numbers of the five input windows at a grid point. -/
theorem at_win : ∀ t : Fin cfg0.N, (win0_0.index t 0 = t.val / 11 ∧ win0_0.index t 1 = 0)
    ∧ (win0_1.index t 0 = 0 ∧ win0_1.index t 1 = 0) ∧ (win0_2.index t 0 = 0 ∧ win0_2.index t 1 = t.val % 11)
    ∧ (win0_3.index t 0 = 0 ∧ win0_3.index t 1 = t.val % 11) ∧ (win0_4.index t 0 = t.val % 11 ∧ win0_4.index t 1 = 0) :=
  (by decide +kernel : ∀ t : Fin grid0.N, _)

/-- The reshaped gain that the region finds. -/
theorem gain_at (k : Fin 2048) : (V m c main_v0 : FVec Ideal S1x2048 .f32) (ix2 0 k) = G m c (ix1 k) := by
  have e : (V m c main_v0 : FVec Ideal S1x2048 .f32) = shapeCast S1x2048 (G m c) shapeCasts_S2048_S1x2048 := by
    unfold V hostOps0
    after_results
    rfl
  rw [e]
  pointwise

/-- Row block `t / 11` of the input. -/
theorem blk0 (t : Fin cfg0.N) (r : Fin 1024) (k : Fin 2048) (R : Fin 8192) (hR : R.val = 1024 * (t.val / 11) + r.val) :
    (iblk m c 0 t : FVec Ideal S1024x2048 .f32) (ix2 r k) = X m c (ix2 R k) := by
  obtain ⟨⟨e0, e1⟩, -⟩ := at_win t
  unfold iblk
  rw [View.read_apply]
  show V m c main_arg0 _ = _
  rw [V_main_arg0]
  refine congrArg (m ((c : Thread nD τ).loc main_arg0)) (idx2_eq ?_ ?_)
  · show win0_0.index t 0 * 1024 + 1 * r.val = R.val; rw [e0]; omega
  · show win0_0.index t 1 * 2048 + 1 * k.val = k.val; rw [e1]; omega

/-- The gain row. -/
theorem blk1 (t : Fin cfg0.N) (k : Fin 2048) : (iblk m c 1 t : FVec Ideal S1x2048 .f32) (ix2 0 k) = G m c (ix1 k) := by
  obtain ⟨-, ⟨e0, e1⟩, -⟩ := at_win t
  rw [← gain_at]
  unfold iblk
  rw [View.read_apply]
  show V m c main_v0 _ = _
  refine congrArg (V m c main_v0) (idx2_eq ?_ ?_)
  · show win0_1.index t 0 * 1 + 1 * 0 = 0; rw [e0]
  · show win0_1.index t 1 * 2048 + 1 * k.val = k.val; rw [e1]; omega

/-- Column tile `t % 11` of the first weight. -/
theorem blk2 (t : Fin cfg0.N) (k : Fin 2048) (q : Fin 512) (p : Fin 5632) (hp : p.val = 512 * (t.val % 11) + q.val) :
    (iblk m c 2 t : FVec Ideal S2048x512 .bf16) (ix2 k q) = W1 m c (ix2 k p) := by
  obtain ⟨-, -, ⟨e0, e1⟩, -⟩ := at_win t
  unfold iblk
  rw [View.read_apply]
  show V m c main_arg2 _ = _
  rw [V_main_arg2]
  refine congrArg (m ((c : Thread nD τ).loc main_arg2)) (idx2_eq ?_ ?_)
  · show win0_2.index t 0 * 2048 + 1 * k.val = k.val; rw [e0]; omega
  · show win0_2.index t 1 * 512 + 1 * q.val = p.val; rw [e1]; omega

/-- Column tile `t % 11` of the second weight. -/
theorem blk3 (t : Fin cfg0.N) (k : Fin 2048) (q : Fin 512) (p : Fin 5632) (hp : p.val = 512 * (t.val % 11) + q.val) :
    (iblk m c 3 t : FVec Ideal S2048x512 .bf16) (ix2 k q) = W3 m c (ix2 k p) := by
  obtain ⟨-, -, -, ⟨e0, e1⟩, -⟩ := at_win t
  unfold iblk
  rw [View.read_apply]
  show V m c main_arg3 _ = _
  rw [V_main_arg3]
  refine congrArg (m ((c : Thread nD τ).loc main_arg3)) (idx2_eq ?_ ?_)
  · show win0_3.index t 0 * 2048 + 1 * k.val = k.val; rw [e0]; omega
  · show win0_3.index t 1 * 512 + 1 * q.val = p.val; rw [e1]; omega

/-- Row tile `t % 11` of the output weight. -/
theorem blk4 (t : Fin cfg0.N) (q : Fin 512) (j : Fin 2048) (p : Fin 5632) (hp : p.val = 512 * (t.val % 11) + q.val) :
    (iblk m c 4 t : FVec Ideal S512x2048 .bf16) (ix2 q j) = W2 m c (ix2 p j) := by
  obtain ⟨-, -, -, -, e0, e1⟩ := at_win t
  unfold iblk
  rw [View.read_apply]
  show V m c main_arg4 _ = _
  rw [V_main_arg4]
  refine congrArg (m ((c : Thread nD τ).loc main_arg4)) (idx2_eq ?_ ?_)
  · show win0_4.index t 0 * 512 + 1 * q.val = p.val; rw [e0]; omega
  · show win0_4.index t 1 * 2048 + 1 * j.val = j.val; rw [e1]; omega

/-- The normed row block stored at a first slice. -/
theorem stored (t : Fin cfg0.N) (r : Fin 1024) (k : Fin 2048) (R : Fin 8192) (hR : R.val = 1024 * (t.val / 11) + r.val) :
    k0_pay2 (iblk m c 0 t : FVec Ideal S1024x2048 .f32) (iblk m c 1 t : FVec Ideal S1x2048 .f32) (ix2 r k) = normed (X m c) (G m c) R k := by
  rw [norm_apply]
  unfold normed
  congr 1
  · funext q; exact blk0 m c t r q R hR
  · funext q; exact blk1 m c t q

/-- The scratch after any grid point: the normed rows of that point's row block. -/
theorem scratch : ∀ (n : ℕ) (hn : n < cfg0.N) (r : Fin 1024) (k : Fin 2048) (R : Fin 8192), R.val = 1024 * (n / 11) + r.val →
    (outsAt0 m c n hn).2 (ix2 r k) = normed (X m c) (G m c) R k := by
  intro n
  induction n with
  | zero =>
    intro hn r k R hR
    rw [outsAt0_A m c ⟨0, hn⟩ rfl]
    dsimp only
    rw [sout_A]
    exact stored m c ⟨0, hn⟩ r k R hR
  | succ n ih =>
    intro hn r k R hR
    by_cases h0 : (n + 1) % 11 = 0
    · rw [outsAt0_A m c ⟨n + 1, hn⟩ h0]
      dsimp only
      rw [sout_A]
      exact stored m c ⟨n + 1, hn⟩ r k R hR
    · rw [outsAt0_B m c ⟨n + 1, hn⟩ h0]
      dsimp only
      rw [sout_B]
      exact ih _ r k R (by omega)

/-- What position `p` of the hidden axis adds to element `(R, J)`; nothing beyond the axis. -/
def term (R : Fin 8192) (J : Fin 2048) (p : ℕ) : EReal :=
  if h : p < 5632 then hid (X m c) (G m c) (W1 m c) (W3 m c) R ⟨p, h⟩ * W2 m c (ix2 ⟨p, h⟩ J) else 0

/-- The share that grid point `t` adds, from a scratch holding the normed rows. -/
theorem share (t : Fin cfg0.N) (s : Vec Ideal S1024x2048 .bf16) (o : Vec Ideal S1024x2048 .f32) (r : Fin 1024) (J : Fin 2048)
    (R : Fin 8192) (hs : ∀ k : Fin 2048, s (ix2 r k) = normed (X m c) (G m c) R k) :
    slice s (iblk m c 2 t) (iblk m c 3 t) (iblk m c 4 t) o (ix2 r J)
      = o (ix2 r J) + ∑ q : Fin 512, term m c R J (512 * (t.val % 11) + q.val) := by
  rw [slice_apply]
  refine congrArg (o (ix2 r J) + ·) (Finset.sum_congr rfl fun q _ => ?_)
  have hp : 512 * (t.val % 11) + q.val < 5632 := by omega
  unfold term hid
  rw [dif_pos hp]
  refine congrArg₂ (· * ·) (congrArg₂ gated (Finset.sum_congr rfl fun k _ => ?_) (Finset.sum_congr rfl fun k _ => ?_)) ?_
  · exact congrArg₂ (· * ·) (hs k) (blk2 m c t k q ⟨_, hp⟩ rfl)
  · exact congrArg₂ (· * ·) (hs k) (blk3 m c t k q ⟨_, hp⟩ rfl)
  · exact blk4 m c t q J ⟨_, hp⟩ rfl

/-- The output block at a first slice: the input rows and the first share. -/
theorem first (t : Fin cfg0.N) (h0 : t.val % 11 = 0) (r : Fin 1024) (J : Fin 2048) (R : Fin 8192)
    (hR : R.val = 1024 * (t.val / 11) + r.val) :
    (outsAt0 m c t.val t.isLt).1 (ix2 r J) = X m c (ix2 R J)
      + ∑ j ∈ Finset.range (t.val % 11 + 1), ∑ q : Fin 512, term m c R J (512 * j + q.val) := by
  rw [outsAt0_A m c t h0]
  dsimp only
  rw [out_A, share m c t _ _ r J R (fun k => stored m c t r k R hR)]
  rw [h0, Finset.sum_range_one]
  exact congrArg (· + _) (blk0 m c t r J R hR)

/-- The output block after any grid point: the input rows and the shares of the slices so far. -/
theorem block : ∀ (n : ℕ) (hn : n < cfg0.N) (r : Fin 1024) (J : Fin 2048) (R : Fin 8192), R.val = 1024 * (n / 11) + r.val →
    (outsAt0 m c n hn).1 (ix2 r J) = X m c (ix2 R J)
      + ∑ j ∈ Finset.range (n % 11 + 1), ∑ q : Fin 512, term m c R J (512 * j + q.val) := by
  intro n
  induction n with
  | zero => intro hn r J R hR; exact first m c ⟨0, hn⟩ rfl r J R hR
  | succ n ih =>
    intro hn r J R hR
    by_cases h0 : (n + 1) % 11 = 0
    · exact first m c ⟨n + 1, hn⟩ h0 r J R hR
    · have hR' : R.val = 1024 * (n / 11) + r.val := by omega
      rw [outsAt0_B m c ⟨n + 1, hn⟩ h0]
      dsimp only
      rw [out_B, share m c ⟨n + 1, hn⟩ _ _ r J R (fun k => scratch m c (n + 1 - 1) _ r k R hR')]
      rw [Finset.sum_range_succ, show (n + 1) % 11 = n % 11 + 1 by omega, ← add_assoc]
      exact congrArg (· + _) (ih _ r J R hR')

/-- The array after the run, at an index. -/
theorem array_at (R : Fin 8192) (J : Fin 2048) :
    (Value.G5 m c : FVec Ideal S8192x2048 .f32) (ix2 R J) = X m c (ix2 R J)
      + ∑ p : Fin 5632, hid (X m c) (G m c) (W1 m c) (W3 m c) R p * W2 m c (ix2 p J) := by
  have hN : cfg0.N = 88 := N_0
  have hp : Value.pt5Of (ix2 R J) < cfg0.N := by
    show 11 * (1 * (R.val / 1024 - 0) + 1 * (J.val / 2048 - 0)) + 10 < _; omega
  unfold Value.G5
  rw [dif_pos hp, ← Value.outsAt0_sweep m c _ hp]
  have el : Value.loc5Of (ix2 R J) = ix2 (n0 := 1024) (n1 := 2048) ⟨R.val % 1024, by omega⟩ ⟨J.val % 2048, by omega⟩ := idx2_eq rfl rfl
  have eJ : (⟨J.val % 2048, by omega⟩ : Fin 2048) = J := Fin.ext (by show J.val % 2048 = J.val; omega)
  rw [el, eJ, block m c _ hp _ J R (by
    show R.val = 1024 * ((11 * (1 * (R.val / 1024 - 0) + 1 * (J.val / 2048 - 0)) + 10) / 11) + R.val % 1024; omega)]
  have e10 : Value.pt5Of (ix2 R J) % 11 + 1 = 11 := by
    show (11 * (1 * (R.val / 1024 - 0) + 1 * (J.val / 2048 - 0)) + 10) % 11 + 1 = 11; omega
  rw [e10, ← tiles_sum]
  refine congrArg (_ + ·) (Finset.sum_congr rfl fun p _ => ?_)
  unfold term
  rw [dif_pos p.isLt]

end Cert.FfnIdeal.Own

end
-- ==== Proof.Ffn.Ref.lean ====
/-
  WHAT THE FEED-FORWARD REFERENCE COMPUTES, element by element: the input plus half of the sum over the hidden units,
  with the half moved into every unit.
-/
module

public import proofs.«01_k».proof.Proof.Gen.FfnRefIdeal.Read
public import proofs.«01_k».proof.Proof.Ffn.Unit

@[expose] public section

noncomputable section

namespace Cert.FfnRefIdeal.Own

open Cert.FfnRefIdeal Cert.FfnRefIdeal.Gen Cert.FfnRefIdeal.Read Cert.Layer Idealize.ShloMosaic Idealize.ShloMosaic.TcCoe

/-- The reference's normed array at an index. -/
theorem norm_at (x0 : FVec Ideal S8192x2048 .f32) (x1 : FVec Ideal S2048 .f32) (R : Fin 8192) (k : Fin 2048) :
    val_main_v15 (F := Ideal) x0 x1 (ix2 R k) = normed x0 x1 R k := by
  unfold normed rmsn val_main_v15 val_main_v14 val_main_v13 val_main_v12 val_main_v11 val_main_v10 val_main_v9 val_main_v8 val_main_v7 val_main_v6 val_main_v5 val_main_v4 val_main_v3 val_main_cst val_main_cst_0 val_main_cst_1
  pointwise

/-- The first pre-activation at an index. -/
theorem one_at (x0 : FVec Ideal S8192x2048 .f32) (x1 : FVec Ideal S2048 .f32) (x2 : FVec Ideal S2048x5632 .bf16) (R : Fin 8192) (p : Fin 5632) :
    val_main_v16 (F := Ideal) x0 x1 x2 (ix2 R p) = ∑ k : Fin 2048, normed x0 x1 R k * x2 (ix2 k p) := by
  rw [val_main_v16_apply]
  refine Finset.sum_congr rfl fun k _ => congrArg₂ (· * ·) ?_ ?_
  · rw [show lidx_main_v16 (ix2 R p) k = ix2 R k from idx2_eq rfl rfl]; exact norm_at x0 x1 R k
  · rw [show ridx_main_v16 (ix2 R p) k = ix2 k p from idx2_eq rfl rfl]; rfl

/-- The second pre-activation at an index. -/
theorem three_at (x0 : FVec Ideal S8192x2048 .f32) (x1 : FVec Ideal S2048 .f32) (x3 : FVec Ideal S2048x5632 .bf16) (R : Fin 8192) (p : Fin 5632) :
    val_main_v18 (F := Ideal) x0 x1 x3 (ix2 R p) = ∑ k : Fin 2048, normed x0 x1 R k * x3 (ix2 k p) := by
  rw [val_main_v18_apply]
  refine Finset.sum_congr rfl fun k _ => congrArg₂ (· * ·) ?_ ?_
  · rw [show lidx_main_v18 (ix2 R p) k = ix2 R k from idx2_eq rfl rfl]; exact norm_at x0 x1 R k
  · rw [show ridx_main_v18 (ix2 R p) k = ix2 k p from idx2_eq rfl rfl]; rfl

/-- The logistic of the first pre-activation. -/
theorem gate_at (x0 : FVec Ideal S8192x2048 .f32) (x1 : FVec Ideal S2048 .f32) (x2 : FVec Ideal S2048x5632 .bf16) (R : Fin 8192) (p : Fin 5632) :
    val_main_call0_v5 (F := Ideal) x0 x1 x2 (ix2 R p) = sigm (val_main_v16 (F := Ideal) x0 x1 x2 (ix2 R p)) := by
  unfold sigm val_main_call0_v5 val_main_call0_v4 val_main_call0_v3 val_main_call0_v2 val_main_call0_v1 val_main_call0_v0 val_main_call0_cst val_main_call0_cst_0
  generalize val_main_v16 (F := Ideal) x0 x1 x2 = v
  pointwise [word_one]

/-- A gated unit of the reference, and the factor one half put to it. -/
theorem unit_at (x0 : FVec Ideal S8192x2048 .f32) (x1 : FVec Ideal S2048 .f32) (x2 x3 : FVec Ideal S2048x5632 .bf16) (R : Fin 8192) (p : Fin 5632) (w : EReal) :
    Ideal.ofBits .f32 0x3F000000#32 * (val_main_v19 (F := Ideal) x0 x1 x2 x3 (ix2 R p) * w) = hid x0 x1 x2 x3 R p * w := by
  have e : val_main_v19 (F := Ideal) x0 x1 x2 x3 (ix2 R p)
      = val_main_v16 (F := Ideal) x0 x1 x2 (ix2 R p) * val_main_call0_v5 (F := Ideal) x0 x1 x2 (ix2 R p) * val_main_v18 (F := Ideal) x0 x1 x3 (ix2 R p) := rfl
  rw [e, gate_at, one_at, three_at]
  unfold hid gated
  simp only [mul_assoc]

/-- The reference's result at an index. -/
theorem result_at (x0 : FVec Ideal S8192x2048 .f32) (x1 : FVec Ideal S2048 .f32) (x2 x3 : FVec Ideal S2048x5632 .bf16) (x4 : FVec Ideal S5632x2048 .bf16)
    (R : Fin 8192) (J : Fin 2048) :
    val_main_v23 (F := Ideal) x0 x1 x2 x3 x4 (ix2 R J) = x0 (ix2 R J) + ∑ p : Fin 5632, hid x0 x1 x2 x3 R p * x4 (ix2 p J) := by
  have e : val_main_v23 (F := Ideal) x0 x1 x2 x3 x4 (ix2 R J)
      = x0 (ix2 R J) + Ideal.ofBits .f32 0x3F000000#32 * val_main_v20 (F := Ideal) x0 x1 x2 x3 x4 (ix2 R J) := rfl
  rw [e, val_main_v20_apply, half_sum]
  refine congrArg (_ + ·) (Finset.sum_congr rfl fun p _ => ?_)
  rw [← unit_at]
  refine congrArg (_ * ·) (congrArg₂ (· * ·) ?_ ?_)
  · rw [show lidx_main_v20 (ix2 R J) p = ix2 R p from idx2_eq rfl rfl]
  · rw [show ridx_main_v20 (ix2 R J) p = ix2 p J from idx2_eq rfl rfl]; rfl

end Cert.FfnRefIdeal.Own

end
-- ==== Proof.Merge.Block.lean ====
/-
  WHAT ONE GRID POINT OF THE MERGE COMPUTES: the found stores of the two cases of the body, read back as values, and
  these values at an index. At the first channel tile the normed row block is put into the scratch and the input rows
  into the output block; at every tile the output block gains the tile's gated arms times the output weight's rows.
-/
module

public import proofs.«01_k».proof.Proof.Gen.MergeIdeal.Value
public import proofs.«01_k».proof.Proof.Norm
public import Idealize.ShloMosaic.Lib.Exec

@[expose] public section

noncomputable section

namespace Cert.MergeIdeal.Own

open Cert.MergeIdeal Cert.MergeIdeal.Gen Cert.Layer Idealize.ShloMosaic Idealize.ShloMosaic.TcCoe

variable (c : Dev nD) (i : grid0.Coords) (a2 : Memref sig .tc .vmem S512x2048 .f32) (h2 : a2.IsWhole) (a3 : Memref sig .tc .vmem S1x2048 .f32) (h3 : a3.IsWhole) (a4 : Memref sig .tc .vmem S512x512 .bf16) (h4 : a4.IsWhole) (a5 : Memref sig .tc .vmem S512x512 .bf16) (h5 : a5.IsWhole) (a6 : Memref sig .tc .vmem S512x512 .bf16) (h6 : a6.IsWhole) (a7 : Memref sig .tc .vmem S512x512 .bf16) (h7 : a7.IsWhole) (a8 : Memref sig .tc .vmem S2048x512 .bf16) (h8 : a8.IsWhole) (a9 : Memref sig .tc .vmem S2048x512 .bf16) (h9 : a9.IsWhole) (a10 : Memref sig .tc .vmem S2048x512 .bf16) (h10 : a10.IsWhole) (a11 : Memref sig .tc .vmem S2048x512 .bf16) (h11 : a11.IsWhole) (a12 : Memref sig .tc .vmem S4x512 .f32) (h12 : a12.IsWhole) (a13 : Memref sig .tc .vmem S4x512x512 .bf16) (h13 : a13.IsWhole) (a14 : Memref sig .tc .vmem S512x2048 .bf16) (h14 : a14.IsWhole) (a15 : Memref sig .tc .vmem S512x2048 .f32) (h15 : a15.IsWhole) (a16 : Memref sig .tc .vmem S512x2048 .bf16) (h16 : a16.IsWhole)

/-- The rows of the gate biases' tile and the slabs of the lifts' tile, one per branch. -/
abbrev row0 (b : Vec Ideal S4x512 .f32) : Vec Ideal S1x512 .f32 :=
  View.ld b (Rect.unit (s := S4x512) ![0, 0] S1x512.size inb_S4x512_S1x512_0_0)
abbrev row1 (b : Vec Ideal S4x512 .f32) : Vec Ideal S1x512 .f32 :=
  View.ld b (Rect.unit (s := S4x512) ![1, 0] S1x512.size inb_S4x512_S1x512_1_0)
abbrev row2 (b : Vec Ideal S4x512 .f32) : Vec Ideal S1x512 .f32 :=
  View.ld b (Rect.unit (s := S4x512) ![2, 0] S1x512.size inb_S4x512_S1x512_2_0)
abbrev row3 (b : Vec Ideal S4x512 .f32) : Vec Ideal S1x512 .f32 :=
  View.ld b (Rect.unit (s := S4x512) ![3, 0] S1x512.size inb_S4x512_S1x512_3_0)
abbrev slab0 (w : Vec Ideal S4x512x512 .bf16) : Vec Ideal S1x512x512 .bf16 :=
  View.ld w (Rect.unit (s := S4x512x512) ![0, 0, 0] S1x512x512.size inb_S4x512x512_S1x512x512_0_0_0)
abbrev slab1 (w : Vec Ideal S4x512x512 .bf16) : Vec Ideal S1x512x512 .bf16 :=
  View.ld w (Rect.unit (s := S4x512x512) ![1, 0, 0] S1x512x512.size inb_S4x512x512_S1x512x512_1_0_0)
abbrev slab2 (w : Vec Ideal S4x512x512 .bf16) : Vec Ideal S1x512x512 .bf16 :=
  View.ld w (Rect.unit (s := S4x512x512) ![2, 0, 0] S1x512x512.size inb_S4x512x512_S1x512x512_2_0_0)
abbrev slab3 (w : Vec Ideal S4x512x512 .bf16) : Vec Ideal S1x512x512 .bf16 :=
  View.ld w (Rect.unit (s := S4x512x512) ![3, 0, 0] S1x512x512.size inb_S4x512x512_S1x512x512_3_0_0)

/-- One channel tile's step on the output block `o`, from the scratch `s`, the four branches' rows and the weight tiles. -/
def mstep (s : Vec Ideal S512x2048 .bf16) (y0 y1 y2 y3 : Vec Ideal S512x512 .bf16) (w0 w1 w2 w3 : Vec Ideal S2048x512 .bf16)
    (b : Vec Ideal S4x512 .f32) (l : Vec Ideal S4x512x512 .bf16) (p : Vec Ideal S512x2048 .bf16) (o : Vec Ideal S512x2048 .f32) :
    Vec Ideal S512x2048 .f32 :=
  k0_pay1 (k0_pay5 s (k0_pay3 s w0 (row0 b) y0 (slab0 l)) (k0_pay4 s w1 (row1 b)) (Scalar.ofBits .f32 0x3F800000#32) y1 (slab1 l)
    w2 (row2 b) y2 (slab2 l)) (k0_pay6 s w3 (row3 b)) y3 (slab3 l) o p

section
variable (x0 : Vec Ideal S512x2048 .f32) (x1 : Vec Ideal S1x2048 .f32) (x2 x3 x4 x5 : Vec Ideal S512x512 .bf16)
  (x6 x7 x8 x9 : Vec Ideal S2048x512 .bf16) (x10 : Vec Ideal S4x512 .f32) (x11 : Vec Ideal S4x512x512 .bf16) (x12 : Vec Ideal S512x2048 .bf16)
  (o : Vec Ideal S512x2048 .f32) (s : Vec Ideal S512x2048 .bf16)

/-- First tile: the scratch ends holding the normed row block. -/
theorem sout_A (hc : cond0_0 i) : sout0_A_0 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x12 = k0_pay2 x0 x1 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x12)]
  unfold kernelRun0_A
  dsimp only
  sl_unfold_words
  rw [View.canon_unit_zero corner]
  simp only [View.readAt_eq_ld, h2.read_unread, h3.read_unread, View.ld_unit_zero (S := S512x2048) corner, View.ld_unit_zero (S := S1x2048) corner]

/-- First tile: the output block is the step on the input rows, from the normed row block. -/
theorem out_A (hc : cond0_0 i) : out0_A_13 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x12 = mstep (k0_pay2 x0 x1) x2 x3 x4 x5 x6 x7 x8 x9 x10 x11 x12 x0 := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x12)]
  unfold kernelRun0_A
  dsimp only
  sl_unfold_words
  rw [View.canon_cons_unit_zero (S := S512x2048) corner]
  simp only [View.readCov_unit_zero (S := S512x2048) _ corner, View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S512x2048) corner, View.ld_unit_zero (S := S1x2048) corner, View.ld_unit_zero (S := S512x512) corner, View.ld_unit_zero (S := S2048x512) corner]
  simp only [mstep, row0, row1, row2, row3, slab0, slab1, slab2, slab3]

/-- Later tiles: the output block is the step on what the tile before left, from the scratch. -/
theorem out_B (hc : ¬cond0_0 i) : out0_B_13 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x12 o s = mstep s x2 x3 x4 x5 x6 x7 x8 x9 x10 x11 x12 o := by
  unfold out0_B_13
  rw [View.read_writes_eq_canon _ _ _ (cover0_B_13 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x12 o s)]
  unfold kernelRun0_B
  dsimp only
  sl_unfold_words
  rw [View.canon_unit_zero corner]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S512x2048) corner, View.ld_unit_zero (S := S1x2048) corner, View.ld_unit_zero (S := S512x512) corner, View.ld_unit_zero (S := S2048x512) corner]
  simp only [mstep, row0, row1, row2, row3, slab0, slab1, slab2, slab3]

/-- Later tiles leave the scratch as it was. -/
theorem sout_B (hc : ¬cond0_0 i) : sout0_B_0 c i a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x12 o s = s := rfl

/-- The normed row block at an index. -/
theorem norm_apply (r : Fin 512) (k : Fin 2048) :
    k0_pay2 x0 x1 (ix2 r k) = rmsn (fun q => x0 (ix2 r q)) (fun q => x1 (ix2 0 q)) k := by
  unfold k0_pay2 rmsn
  pointwise

/-- One arm of one tile at an index, from the tile's values. -/
def tarm (s : Vec Ideal S512x2048 .bf16) (y : Vec Ideal S512x512 .bf16) (w : Vec Ideal S2048x512 .bf16) (b : Vec Ideal S4x512 .f32)
    (l : Vec Ideal S4x512x512 .bf16) (n : Fin 4) (r q : Fin 512) : EReal :=
  sigm ((∑ k : Fin 2048, s (ix2 r k) * w (ix2 k q)) + b (ix2 n q)) * ∑ u : Fin 512, y (ix2 r u) * l (ix3 n u q)

/-- The step at an index: the tile's 512 channels, the four arms added, times the output weight's column. -/
theorem mstep_apply (r : Fin 512) (j : Fin 2048) : mstep s x2 x3 x4 x5 x6 x7 x8 x9 x10 x11 x12 o (ix2 r j) = o (ix2 r j)
    + ∑ q : Fin 512, (tarm s x2 x6 x10 x11 0 r q + tarm s x3 x7 x10 x11 1 r q + tarm s x4 x8 x10 x11 2 r q + tarm s x5 x9 x10 x11 3 r q)
      * x12 (ix2 q j) := by
  unfold mstep tarm sigm
  unfold_payloads
  pointwise [dot_S512x2048_S2048x512_S512x512_1_0_0_1_n_n, dot_S512x512_S512x512_S512x512_1_0_0_1_n_n, dot_S512x512_S512x2048_S512x2048_1_0_0_1_n_n, word_one, zero_sub, row0, row1, row2, row3, slab0, slab1, slab2, slab3]
end

end Cert.MergeIdeal.Own

end
-- ==== Proof.Merge.Arm.lean ====
/-
  ONE GATED ARM of the merge, as an extended-real formula both programs come down to: a branch's output lifted to the
  model's width, times the logistic gate read off the normed input.
-/
module

public import proofs.«01_k».proof.Proof.Norm

@[expose] public section

noncomputable section

namespace Cert.Layer

open Idealize.ShloMosaic

/-- Column `e` of branch `n`'s gate weight, among the 8192 columns of the four gates side by side. -/
def gcol (n : Fin 4) (e : Fin 2048) : Fin 8192 := ⟨2048 * n.val + e.val, by omega⟩

/-- Arm `n` at row `R` and merged channel `e`, from the normed input, the branch's output `Y` and the gate's and lift's weights. -/
def arm (X : FVec Ideal ⟨2, ![8192, 2048]⟩ .f32) (G : FVec Ideal ⟨1, ![2048]⟩ .f32) (Wg : FVec Ideal ⟨2, ![2048, 8192]⟩ .bf16)
    (Bg : FVec Ideal ⟨2, ![4, 2048]⟩ .f32) (Wb : FVec Ideal ⟨3, ![4, 512, 2048]⟩ .bf16) (n : Fin 4)
    (Y : FVec Ideal ⟨2, ![8192, 512]⟩ .bf16) (R : Fin 8192) (e : Fin 2048) : EReal :=
  sigm ((∑ k : Fin 2048, normed X G R k * Wg (ix2 k (gcol n e))) + Bg (ix2 n e)) * ∑ c : Fin 512, Y (ix2 R c) * Wb (ix3 n c e)

/-- The four arms added in the order of the branches. -/
def mix (X : FVec Ideal ⟨2, ![8192, 2048]⟩ .f32) (G : FVec Ideal ⟨1, ![2048]⟩ .f32) (Y0 Y1 Y2 Y3 : FVec Ideal ⟨2, ![8192, 512]⟩ .bf16)
    (Wg : FVec Ideal ⟨2, ![2048, 8192]⟩ .bf16) (Bg : FVec Ideal ⟨2, ![4, 2048]⟩ .f32) (Wb : FVec Ideal ⟨3, ![4, 512, 2048]⟩ .bf16)
    (R : Fin 8192) (e : Fin 2048) : EReal :=
  arm X G Wg Bg Wb 0 Y0 R e + arm X G Wg Bg Wb 1 Y1 R e + arm X G Wg Bg Wb 2 Y2 R e + arm X G Wg Bg Wb 3 Y3 R e

/-- A sum over `4` tiles of `512`, added tile by tile, of a term given at every natural position. -/
theorem four_tiles (f : ℕ → EReal) : ∑ p : Fin 2048, f p.val = ∑ j ∈ Finset.range 4, ∑ q : Fin 512, f (512 * j + q.val) := by
  rw [Fin.sum_univ_tiles 4 512 (by norm_num) (fun p => f p.val), Finset.sum_range]
  exact Finset.sum_congr rfl fun j _ => Finset.sum_congr rfl fun q _ => congrArg f (by dsimp only; omega)

/-- Two indices of a rank-three array with equal coordinates are equal. -/
theorem idx3_eq {a b c : ℕ} {i j : (⟨3, ![a, b, c]⟩ : Shape).Idx} (h0 : (i 0).val = (j 0).val) (h1 : (i 1).val = (j 1).val)
    (h2 : (i 2).val = (j 2).val) : i = j :=
  funext fun d => Fin.ext (match d with | ⟨0, _⟩ => h0 | ⟨1, _⟩ => h1 | ⟨2, _⟩ => h2)

end Cert.Layer

end
-- ==== Proof.Merge.Windows.lean ====
/-
  WHAT THE MERGE'S WINDOWS READ: the block every input window hands a grid point, placed in the argument it is cut from.
-/
module

public import proofs.«01_k».proof.Proof.Gen.MergeIdeal.Value
public import proofs.«01_k».proof.Proof.Merge.Arm
public import Idealize.ShloMosaic.Lib.Exec

@[expose] public section

noncomputable section

namespace Cert.MergeIdeal.Own

open Cert.MergeIdeal Cert.MergeIdeal.Gen Cert.Layer Idealize.ShloMosaic Idealize.ShloMosaic.TcCoe

variable (m : (ℓ : Loc nD τ sig) → Buf (Elt Ideal) ℓ) (c : Dev nD)

/-- The input array, the gain vector, the four branches' outputs, the gates' weight and biases, the lifts and the output
    weight, as launched. -/
abbrev X : FVec Ideal ⟨2, ![8192, 2048]⟩ .f32 := m ((c : Thread nD τ).loc main_arg0)
abbrev G : FVec Ideal ⟨1, ![2048]⟩ .f32 := m ((c : Thread nD τ).loc main_arg1)
abbrev Y0 : FVec Ideal ⟨2, ![8192, 512]⟩ .bf16 := m ((c : Thread nD τ).loc main_arg2)
abbrev Y1 : FVec Ideal ⟨2, ![8192, 512]⟩ .bf16 := m ((c : Thread nD τ).loc main_arg3)
abbrev Y2 : FVec Ideal ⟨2, ![8192, 512]⟩ .bf16 := m ((c : Thread nD τ).loc main_arg4)
abbrev Y3 : FVec Ideal ⟨2, ![8192, 512]⟩ .bf16 := m ((c : Thread nD τ).loc main_arg5)
abbrev Wg : FVec Ideal ⟨2, ![2048, 8192]⟩ .bf16 := m ((c : Thread nD τ).loc main_arg6)
abbrev Bg : FVec Ideal ⟨2, ![4, 2048]⟩ .f32 := m ((c : Thread nD τ).loc main_arg7)
abbrev Wb : FVec Ideal ⟨3, ![4, 512, 2048]⟩ .bf16 := m ((c : Thread nD τ).loc main_arg8)
abbrev Wo : FVec Ideal ⟨2, ![2048, 2048]⟩ .bf16 := m ((c : Thread nD τ).loc main_arg9)

/-- The block numbers of the input windows at a grid point, decided over the grid. -/
theorem at_win0 : ∀ t : Fin cfg0.N, win0_0.index t 0 = t.val / 4 ∧ win0_0.index t 1 = 0 :=
  (by decide +kernel : ∀ t : Fin grid0.N, _)
theorem at_win1 : ∀ t : Fin cfg0.N, win0_1.index t 0 = 0 ∧ win0_1.index t 1 = 0 :=
  (by decide +kernel : ∀ t : Fin grid0.N, _)
theorem at_win2 : ∀ t : Fin cfg0.N, win0_2.index t 0 = t.val / 4 ∧ win0_2.index t 1 = 0 :=
  (by decide +kernel : ∀ t : Fin grid0.N, _)
theorem at_win3 : ∀ t : Fin cfg0.N, win0_3.index t 0 = t.val / 4 ∧ win0_3.index t 1 = 0 :=
  (by decide +kernel : ∀ t : Fin grid0.N, _)
theorem at_win4 : ∀ t : Fin cfg0.N, win0_4.index t 0 = t.val / 4 ∧ win0_4.index t 1 = 0 :=
  (by decide +kernel : ∀ t : Fin grid0.N, _)
theorem at_win5 : ∀ t : Fin cfg0.N, win0_5.index t 0 = t.val / 4 ∧ win0_5.index t 1 = 0 :=
  (by decide +kernel : ∀ t : Fin grid0.N, _)
theorem at_win6 : ∀ t : Fin cfg0.N, win0_6.index t 0 = 0 ∧ win0_6.index t 1 = t.val % 4 :=
  (by decide +kernel : ∀ t : Fin grid0.N, _)
theorem at_win7 : ∀ t : Fin cfg0.N, win0_7.index t 0 = 0 ∧ win0_7.index t 1 = 4 + t.val % 4 :=
  (by decide +kernel : ∀ t : Fin grid0.N, _)
theorem at_win8 : ∀ t : Fin cfg0.N, win0_8.index t 0 = 0 ∧ win0_8.index t 1 = 8 + t.val % 4 :=
  (by decide +kernel : ∀ t : Fin grid0.N, _)
theorem at_win9 : ∀ t : Fin cfg0.N, win0_9.index t 0 = 0 ∧ win0_9.index t 1 = 12 + t.val % 4 :=
  (by decide +kernel : ∀ t : Fin grid0.N, _)
theorem at_win10 : ∀ t : Fin cfg0.N, win0_10.index t 0 = 0 ∧ win0_10.index t 1 = t.val % 4 :=
  (by decide +kernel : ∀ t : Fin grid0.N, _)
theorem at_win11 : ∀ t : Fin cfg0.N, win0_11.index t 0 = 0 ∧ win0_11.index t 1 = 0 ∧ win0_11.index t 2 = t.val % 4 :=
  (by decide +kernel : ∀ t : Fin grid0.N, _)
theorem at_win12 : ∀ t : Fin cfg0.N, win0_12.index t 0 = t.val % 4 ∧ win0_12.index t 1 = 0 :=
  (by decide +kernel : ∀ t : Fin grid0.N, _)

/-- The reshaped gain that the region finds. -/
theorem gain_at (k : Fin 2048) : (V m c main_v0 : FVec Ideal S1x2048 .f32) (ix2 0 k) = G m c (ix1 k) := by
  have e : (V m c main_v0 : FVec Ideal S1x2048 .f32) = shapeCast S1x2048 (G m c) shapeCasts_S2048_S1x2048 := by
    unfold V hostOps0
    after_results
    rfl
  rw [e]
  pointwise

/-- The gain row. -/
theorem blk1 (t : Fin cfg0.N) (k : Fin 2048) : (iblk m c 1 t : FVec Ideal S1x2048 .f32) (ix2 0 k) = G m c (ix1 k) := by
  obtain ⟨e0, e1⟩ := at_win1 t
  rw [← gain_at]
  unfold iblk
  rw [View.read_apply]
  show V m c main_v0 _ = _
  refine congrArg (V m c main_v0) (idx2_eq ?_ ?_)
  · show win0_1.index t 0 * 1 + 1 * 0 = 0; rw [e0]
  · show win0_1.index t 1 * 2048 + 1 * k.val = k.val; rw [e1]; omega

/-- Row block `t / 4` of the input. -/
theorem blk0 (t : Fin cfg0.N) (r : Fin 512) (k : Fin 2048) (R : Fin 8192) (hR : R.val = 512 * (t.val / 4) + r.val) :
    (iblk m c 0 t : FVec Ideal S512x2048 .f32) (ix2 r k) = X m c (ix2 R k) := by
  obtain ⟨e0, e1⟩ := at_win0 t
  unfold iblk
  rw [View.read_apply]
  show V m c main_arg0 _ = _
  rw [V_main_arg0]
  refine congrArg (m ((c : Thread nD τ).loc main_arg0)) (idx2_eq ?_ ?_)
  · show win0_0.index t 0 * 512 + 1 * r.val = R.val; rw [e0]; omega
  · show win0_0.index t 1 * 2048 + 1 * k.val = k.val; rw [e1]; omega

/-- Row block `t / 4` of branch 0. -/
theorem blk2 (t : Fin cfg0.N) (r u : Fin 512) (R : Fin 8192) (hR : R.val = 512 * (t.val / 4) + r.val) :
    (iblk m c 2 t : FVec Ideal S512x512 .bf16) (ix2 r u) = Y0 m c (ix2 R u) := by
  obtain ⟨e0, e1⟩ := at_win2 t
  unfold iblk
  rw [View.read_apply]
  show V m c main_arg2 _ = _
  rw [V_main_arg2]
  refine congrArg (m ((c : Thread nD τ).loc main_arg2)) (idx2_eq ?_ ?_)
  · show win0_2.index t 0 * 512 + 1 * r.val = R.val; rw [e0]; omega
  · show win0_2.index t 1 * 512 + 1 * u.val = u.val; rw [e1]; omega

/-- Row block `t / 4` of branch 1. -/
theorem blk3 (t : Fin cfg0.N) (r u : Fin 512) (R : Fin 8192) (hR : R.val = 512 * (t.val / 4) + r.val) :
    (iblk m c 3 t : FVec Ideal S512x512 .bf16) (ix2 r u) = Y1 m c (ix2 R u) := by
  obtain ⟨e0, e1⟩ := at_win3 t
  unfold iblk
  rw [View.read_apply]
  show V m c main_arg3 _ = _
  rw [V_main_arg3]
  refine congrArg (m ((c : Thread nD τ).loc main_arg3)) (idx2_eq ?_ ?_)
  · show win0_3.index t 0 * 512 + 1 * r.val = R.val; rw [e0]; omega
  · show win0_3.index t 1 * 512 + 1 * u.val = u.val; rw [e1]; omega

/-- Row block `t / 4` of branch 2. -/
theorem blk4 (t : Fin cfg0.N) (r u : Fin 512) (R : Fin 8192) (hR : R.val = 512 * (t.val / 4) + r.val) :
    (iblk m c 4 t : FVec Ideal S512x512 .bf16) (ix2 r u) = Y2 m c (ix2 R u) := by
  obtain ⟨e0, e1⟩ := at_win4 t
  unfold iblk
  rw [View.read_apply]
  show V m c main_arg4 _ = _
  rw [V_main_arg4]
  refine congrArg (m ((c : Thread nD τ).loc main_arg4)) (idx2_eq ?_ ?_)
  · show win0_4.index t 0 * 512 + 1 * r.val = R.val; rw [e0]; omega
  · show win0_4.index t 1 * 512 + 1 * u.val = u.val; rw [e1]; omega

/-- Row block `t / 4` of branch 3. -/
theorem blk5 (t : Fin cfg0.N) (r u : Fin 512) (R : Fin 8192) (hR : R.val = 512 * (t.val / 4) + r.val) :
    (iblk m c 5 t : FVec Ideal S512x512 .bf16) (ix2 r u) = Y3 m c (ix2 R u) := by
  obtain ⟨e0, e1⟩ := at_win5 t
  unfold iblk
  rw [View.read_apply]
  show V m c main_arg5 _ = _
  rw [V_main_arg5]
  refine congrArg (m ((c : Thread nD τ).loc main_arg5)) (idx2_eq ?_ ?_)
  · show win0_5.index t 0 * 512 + 1 * r.val = R.val; rw [e0]; omega
  · show win0_5.index t 1 * 512 + 1 * u.val = u.val; rw [e1]; omega

/-- Column tile `t % 4` of branch 0's gate weight. -/
theorem blk6 (t : Fin cfg0.N) (k : Fin 2048) (q : Fin 512) (e : Fin 2048) (he : e.val = 512 * (t.val % 4) + q.val) :
    (iblk m c 6 t : FVec Ideal S2048x512 .bf16) (ix2 k q) = Wg m c (ix2 k (gcol 0 e)) := by
  obtain ⟨e0, e1⟩ := at_win6 t
  unfold iblk
  rw [View.read_apply]
  show V m c main_arg6 _ = _
  rw [V_main_arg6]
  refine congrArg (m ((c : Thread nD τ).loc main_arg6)) (idx2_eq ?_ ?_)
  · show win0_6.index t 0 * 2048 + 1 * k.val = k.val; rw [e0]; omega
  · show win0_6.index t 1 * 512 + 1 * q.val = 2048 * 0 + e.val; rw [e1]; omega

/-- Column tile `t % 4` of branch 1's gate weight. -/
theorem blk7 (t : Fin cfg0.N) (k : Fin 2048) (q : Fin 512) (e : Fin 2048) (he : e.val = 512 * (t.val % 4) + q.val) :
    (iblk m c 7 t : FVec Ideal S2048x512 .bf16) (ix2 k q) = Wg m c (ix2 k (gcol 1 e)) := by
  obtain ⟨e0, e1⟩ := at_win7 t
  unfold iblk
  rw [View.read_apply]
  show V m c main_arg6 _ = _
  rw [V_main_arg6]
  refine congrArg (m ((c : Thread nD τ).loc main_arg6)) (idx2_eq ?_ ?_)
  · show win0_7.index t 0 * 2048 + 1 * k.val = k.val; rw [e0]; omega
  · show win0_7.index t 1 * 512 + 1 * q.val = 2048 * 1 + e.val; rw [e1]; omega

/-- Column tile `t % 4` of branch 2's gate weight. -/
theorem blk8 (t : Fin cfg0.N) (k : Fin 2048) (q : Fin 512) (e : Fin 2048) (he : e.val = 512 * (t.val % 4) + q.val) :
    (iblk m c 8 t : FVec Ideal S2048x512 .bf16) (ix2 k q) = Wg m c (ix2 k (gcol 2 e)) := by
  obtain ⟨e0, e1⟩ := at_win8 t
  unfold iblk
  rw [View.read_apply]
  show V m c main_arg6 _ = _
  rw [V_main_arg6]
  refine congrArg (m ((c : Thread nD τ).loc main_arg6)) (idx2_eq ?_ ?_)
  · show win0_8.index t 0 * 2048 + 1 * k.val = k.val; rw [e0]; omega
  · show win0_8.index t 1 * 512 + 1 * q.val = 2048 * 2 + e.val; rw [e1]; omega

/-- Column tile `t % 4` of branch 3's gate weight. -/
theorem blk9 (t : Fin cfg0.N) (k : Fin 2048) (q : Fin 512) (e : Fin 2048) (he : e.val = 512 * (t.val % 4) + q.val) :
    (iblk m c 9 t : FVec Ideal S2048x512 .bf16) (ix2 k q) = Wg m c (ix2 k (gcol 3 e)) := by
  obtain ⟨e0, e1⟩ := at_win9 t
  unfold iblk
  rw [View.read_apply]
  show V m c main_arg6 _ = _
  rw [V_main_arg6]
  refine congrArg (m ((c : Thread nD τ).loc main_arg6)) (idx2_eq ?_ ?_)
  · show win0_9.index t 0 * 2048 + 1 * k.val = k.val; rw [e0]; omega
  · show win0_9.index t 1 * 512 + 1 * q.val = 2048 * 3 + e.val; rw [e1]; omega

/-- Column tile `t % 4` of the gate biases. -/
theorem blk10 (t : Fin cfg0.N) (n : Fin 4) (q : Fin 512) (e : Fin 2048) (he : e.val = 512 * (t.val % 4) + q.val) :
    (iblk m c 10 t : FVec Ideal S4x512 .f32) (ix2 n q) = Bg m c (ix2 n e) := by
  obtain ⟨e0, e1⟩ := at_win10 t
  unfold iblk
  rw [View.read_apply]
  show V m c main_arg7 _ = _
  rw [V_main_arg7]
  refine congrArg (m ((c : Thread nD τ).loc main_arg7)) (idx2_eq ?_ ?_)
  · show win0_10.index t 0 * 4 + 1 * n.val = n.val; rw [e0]; omega
  · show win0_10.index t 1 * 512 + 1 * q.val = e.val; rw [e1]; omega

/-- Column tile `t % 4` of the lifts. -/
theorem blk11 (t : Fin cfg0.N) (n : Fin 4) (u q : Fin 512) (e : Fin 2048) (he : e.val = 512 * (t.val % 4) + q.val) :
    (iblk m c 11 t : FVec Ideal S4x512x512 .bf16) (ix3 n u q) = Wb m c (ix3 n u e) := by
  obtain ⟨e0, e1, e2⟩ := at_win11 t
  unfold iblk
  rw [View.read_apply]
  show V m c main_arg8 _ = _
  rw [V_main_arg8]
  refine congrArg (m ((c : Thread nD τ).loc main_arg8)) (idx3_eq ?_ ?_ ?_)
  · show win0_11.index t 0 * 4 + 1 * n.val = n.val; rw [e0]; omega
  · show win0_11.index t 1 * 512 + 1 * u.val = u.val; rw [e1]; omega
  · show win0_11.index t 2 * 512 + 1 * q.val = e.val; rw [e2]; omega

/-- Row tile `t % 4` of the output weight. -/
theorem blk12 (t : Fin cfg0.N) (q : Fin 512) (j : Fin 2048) (e : Fin 2048) (he : e.val = 512 * (t.val % 4) + q.val) :
    (iblk m c 12 t : FVec Ideal S512x2048 .bf16) (ix2 q j) = Wo m c (ix2 e j) := by
  obtain ⟨e0, e1⟩ := at_win12 t
  unfold iblk
  rw [View.read_apply]
  show V m c main_arg9 _ = _
  rw [V_main_arg9]
  refine congrArg (m ((c : Thread nD τ).loc main_arg9)) (idx2_eq ?_ ?_)
  · show win0_12.index t 0 * 512 + 1 * q.val = e.val; rw [e0]; omega
  · show win0_12.index t 1 * 2048 + 1 * j.val = j.val; rw [e1]; omega

end Cert.MergeIdeal.Own

end
-- ==== Proof.Merge.Array.lean ====
/-
  WHAT THE MERGE'S RESULT ARRAY HOLDS: what every grid point leaves in the scratch and, channel tile after channel tile,
  in the output block; and so the array after the run, element by element: the input plus the sum over all merged
  channels.
-/
module

public import proofs.«01_k».proof.Proof.Merge.Block
public import proofs.«01_k».proof.Proof.Merge.Windows

@[expose] public section

noncomputable section

namespace Cert.MergeIdeal.Own

open Cert.MergeIdeal Cert.MergeIdeal.Gen Cert.Layer Idealize.ShloMosaic Idealize.ShloMosaic.TcCoe

variable (m : (ℓ : Loc nD τ sig) → Buf (Elt Ideal) ℓ) (c : Dev nD)

/-- The normed row block stored at a first tile. -/
theorem stored (t : Fin cfg0.N) (r : Fin 512) (k : Fin 2048) (R : Fin 8192) (hR : R.val = 512 * (t.val / 4) + r.val) :
    k0_pay2 (iblk m c 0 t : FVec Ideal S512x2048 .f32) (iblk m c 1 t : FVec Ideal S1x2048 .f32) (ix2 r k) = normed (X m c) (G m c) R k := by
  rw [norm_apply]
  unfold normed
  congr 1
  · funext q; exact blk0 m c t r q R hR
  · funext q; exact blk1 m c t q

/-- The scratch after any grid point: the normed rows of that point's row block. -/
theorem scratch : ∀ (n : ℕ) (hn : n < cfg0.N) (r : Fin 512) (k : Fin 2048) (R : Fin 8192), R.val = 512 * (n / 4) + r.val →
    (outsAt0 m c n hn).2 (ix2 r k) = normed (X m c) (G m c) R k := by
  intro n
  induction n with
  | zero =>
    intro hn r k R hR
    rw [outsAt0_A m c ⟨0, hn⟩ rfl]
    dsimp only
    rw [sout_A]
    exact stored m c ⟨0, hn⟩ r k R hR
  | succ n ih =>
    intro hn r k R hR
    by_cases h0 : (n + 1) % 4 = 0
    · rw [outsAt0_A m c ⟨n + 1, hn⟩ h0]
      dsimp only
      rw [sout_A]
      exact stored m c ⟨n + 1, hn⟩ r k R hR
    · rw [outsAt0_B m c ⟨n + 1, hn⟩ h0]
      dsimp only
      rw [sout_B]
      exact ih _ r k R (by omega)

/-- What merged channel `p` adds to element `(R, J)`; nothing beyond the channels. -/
def term (R : Fin 8192) (J : Fin 2048) (p : ℕ) : EReal :=
  if h : p < 2048 then mix (X m c) (G m c) (Y0 m c) (Y1 m c) (Y2 m c) (Y3 m c) (Wg m c) (Bg m c) (Wb m c) R ⟨p, h⟩ * Wo m c (ix2 ⟨p, h⟩ J) else 0

/-- One arm of a tile, from a scratch holding the normed rows and tiles holding their part of the arguments, is that arm
    at its place in the arrays. -/
theorem tarm_eq (t : Fin cfg0.N) (s : Vec Ideal S512x2048 .bf16) (y : Vec Ideal S512x512 .bf16) (w : Vec Ideal S2048x512 .bf16)
    (Y : FVec Ideal ⟨2, ![8192, 512]⟩ .bf16) (n : Fin 4) (r q : Fin 512) (R : Fin 8192) (e : Fin 2048)
    (he : e.val = 512 * (t.val % 4) + q.val) (hs : ∀ k : Fin 2048, s (ix2 r k) = normed (X m c) (G m c) R k)
    (hy : ∀ u : Fin 512, y (ix2 r u) = Y (ix2 R u)) (hw : ∀ k : Fin 2048, w (ix2 k q) = Wg m c (ix2 k (gcol n e))) :
    tarm s y w (iblk m c 10 t) (iblk m c 11 t) n r q = arm (X m c) (G m c) (Wg m c) (Bg m c) (Wb m c) n Y R e := by
  unfold tarm arm
  refine congrArg₂ (· * ·) (congrArg sigm (congrArg₂ (· + ·) (Finset.sum_congr rfl fun k _ => ?_) (blk10 m c t n q e he)))
    (Finset.sum_congr rfl fun u _ => ?_)
  · exact congrArg₂ (· * ·) (hs k) (hw k)
  · exact congrArg₂ (· * ·) (hy u) (blk11 m c t n u q e he)

/-- The share that grid point `t` adds, from a scratch holding the normed rows. -/
theorem share (t : Fin cfg0.N) (s : Vec Ideal S512x2048 .bf16) (o : Vec Ideal S512x2048 .f32) (r : Fin 512) (J : Fin 2048)
    (R : Fin 8192) (hR : R.val = 512 * (t.val / 4) + r.val) (hs : ∀ k : Fin 2048, s (ix2 r k) = normed (X m c) (G m c) R k) :
    mstep s (iblk m c 2 t) (iblk m c 3 t) (iblk m c 4 t) (iblk m c 5 t) (iblk m c 6 t) (iblk m c 7 t) (iblk m c 8 t) (iblk m c 9 t) (iblk m c 10 t) (iblk m c 11 t) (iblk m c 12 t) o (ix2 r J)
      = o (ix2 r J) + ∑ q : Fin 512, term m c R J (512 * (t.val % 4) + q.val) := by
  rw [mstep_apply]
  refine congrArg (o (ix2 r J) + ·) (Finset.sum_congr rfl fun q _ => ?_)
  have hp : 512 * (t.val % 4) + q.val < 2048 := by omega
  unfold term mix
  rw [dif_pos hp]
  refine congrArg₂ (· * ·) (congrArg₂ (· + ·) (congrArg₂ (· + ·) (congrArg₂ (· + ·) ?_ ?_) ?_) ?_) (blk12 m c t q J ⟨_, hp⟩ rfl)
  · exact tarm_eq m c t s _ _ _ 0 r q R ⟨_, hp⟩ rfl hs (fun u => blk2 m c t r u R hR) (fun k => blk6 m c t k q ⟨_, hp⟩ rfl)
  · exact tarm_eq m c t s _ _ _ 1 r q R ⟨_, hp⟩ rfl hs (fun u => blk3 m c t r u R hR) (fun k => blk7 m c t k q ⟨_, hp⟩ rfl)
  · exact tarm_eq m c t s _ _ _ 2 r q R ⟨_, hp⟩ rfl hs (fun u => blk4 m c t r u R hR) (fun k => blk8 m c t k q ⟨_, hp⟩ rfl)
  · exact tarm_eq m c t s _ _ _ 3 r q R ⟨_, hp⟩ rfl hs (fun u => blk5 m c t r u R hR) (fun k => blk9 m c t k q ⟨_, hp⟩ rfl)

/-- The output block at a first tile: the input rows and the first share. -/
theorem first (t : Fin cfg0.N) (h0 : t.val % 4 = 0) (r : Fin 512) (J : Fin 2048) (R : Fin 8192) (hR : R.val = 512 * (t.val / 4) + r.val) :
    (outsAt0 m c t.val t.isLt).1 (ix2 r J) = X m c (ix2 R J)
      + ∑ j ∈ Finset.range (t.val % 4 + 1), ∑ q : Fin 512, term m c R J (512 * j + q.val) := by
  rw [outsAt0_A m c t h0]
  dsimp only
  rw [out_A, share m c t _ _ r J R hR (fun k => stored m c t r k R hR)]
  rw [h0, Finset.sum_range_one]
  exact congrArg (· + _) (blk0 m c t r J R hR)

/-- The output block after any grid point: the input rows and the shares of the tiles so far. -/
theorem block : ∀ (n : ℕ) (hn : n < cfg0.N) (r : Fin 512) (J : Fin 2048) (R : Fin 8192), R.val = 512 * (n / 4) + r.val →
    (outsAt0 m c n hn).1 (ix2 r J) = X m c (ix2 R J)
      + ∑ j ∈ Finset.range (n % 4 + 1), ∑ q : Fin 512, term m c R J (512 * j + q.val) := by
  intro n
  induction n with
  | zero => intro hn r J R hR; exact first m c ⟨0, hn⟩ rfl r J R hR
  | succ n ih =>
    intro hn r J R hR
    by_cases h0 : (n + 1) % 4 = 0
    · exact first m c ⟨n + 1, hn⟩ h0 r J R hR
    · have hR' : R.val = 512 * (n / 4) + r.val := by omega
      rw [outsAt0_B m c ⟨n + 1, hn⟩ h0]
      dsimp only
      rw [out_B, share m c ⟨n + 1, hn⟩ _ _ r J R hR (fun k => scratch m c (n + 1 - 1) _ r k R hR')]
      rw [Finset.sum_range_succ, show (n + 1) % 4 = n % 4 + 1 by omega, ← add_assoc]
      exact congrArg (· + _) (ih _ r J R hR')

/-- The array after the run, at an index. -/
theorem array_at (R : Fin 8192) (J : Fin 2048) :
    (Value.G13 m c : FVec Ideal S8192x2048 .f32) (ix2 R J) = X m c (ix2 R J)
      + ∑ e : Fin 2048, mix (X m c) (G m c) (Y0 m c) (Y1 m c) (Y2 m c) (Y3 m c) (Wg m c) (Bg m c) (Wb m c) R e * Wo m c (ix2 e J) := by
  have hN : cfg0.N = 64 := N_0
  have hp : Value.pt13Of (ix2 R J) < cfg0.N := by
    show 4 * (1 * (R.val / 512 - 0) + 1 * (J.val / 2048 - 0)) + 3 < _; omega
  unfold Value.G13
  rw [dif_pos hp, ← Value.outsAt0_sweep m c _ hp]
  have el : Value.loc13Of (ix2 R J) = ix2 (n0 := 512) (n1 := 2048) ⟨R.val % 512, by omega⟩ ⟨J.val % 2048, by omega⟩ := idx2_eq rfl rfl
  have eJ : (⟨J.val % 2048, by omega⟩ : Fin 2048) = J := Fin.ext (by show J.val % 2048 = J.val; omega)
  rw [el, eJ, block m c _ hp _ J R (by
    show R.val = 512 * ((4 * (1 * (R.val / 512 - 0) + 1 * (J.val / 2048 - 0)) + 3) / 4) + R.val % 512; omega)]
  have e4 : Value.pt13Of (ix2 R J) % 4 + 1 = 4 := by
    show (4 * (1 * (R.val / 512 - 0) + 1 * (J.val / 2048 - 0)) + 3) % 4 + 1 = 4; omega
  rw [e4, ← four_tiles]
  refine congrArg (_ + ·) (Finset.sum_congr rfl fun p _ => ?_)
  unfold term
  rw [dif_pos p.isLt]

end Cert.MergeIdeal.Own

end
-- ==== Proof.Merge.Ref.lean ====
/-
  WHAT THE MERGE'S REFERENCE COMPUTES, element by element: the input plus the sum over the merged channels of the four
  gated arms times the output weight.
-/
module

public import proofs.«01_k».proof.Proof.Gen.MergeRefIdeal.Read
public import proofs.«01_k».proof.Proof.Merge.Arm

@[expose] public section

noncomputable section

namespace Cert.MergeRefIdeal.Own

open Cert.MergeRefIdeal Cert.MergeRefIdeal.Gen Cert.MergeRefIdeal.Read Cert.Layer Idealize.ShloMosaic Idealize.ShloMosaic.TcCoe

variable (x0 : FVec Ideal S8192x2048 .f32) (x1 : FVec Ideal S2048 .f32) (x2 x3 x4 x5 : FVec Ideal S8192x512 .bf16)
  (x6 : FVec Ideal S2048x8192 .bf16) (x7 : FVec Ideal S4x2048 .f32) (x8 : FVec Ideal S4x512x2048 .bf16) (x9 : FVec Ideal S2048x2048 .bf16)

/-- The reference's normed array at an index. -/
theorem norm_at (R : Fin 8192) (k : Fin 2048) :
    val_main_v12 (F := Ideal) x0 x1 (ix2 R k) = normed x0 x1 R k := by
  unfold normed rmsn val_main_v12 val_main_v11 val_main_v10 val_main_v9 val_main_v8 val_main_v7 val_main_v6 val_main_v5 val_main_v4 val_main_v3 val_main_v2 val_main_v1 val_main_v0 val_main_cst val_main_cst_0 val_main_cst_1
  pointwise

/-- The reshaped gate weight at an index: column `e` of branch `n`. -/
theorem gate_weight_at (k : Fin 2048) (n : Fin 4) (e : Fin 2048) :
    val_main_v25 (F := Ideal) x6 (ix3 k n e) = x6 (ix2 k (gcol n e)) := by
  rw [val_main_v25_apply, val_main_v24_apply]
  show x6 _ = x6 _
  refine congrArg x6 (idx2_eq ?_ ?_)
  · show ((k.val * 4 + n.val) * 2048 + e.val) / 8192 = k.val; omega
  · show ((k.val * 4 + n.val) * 2048 + e.val) % 8192 = 2048 * n.val + e.val; omega

/-- The gate's argument at an index. -/
theorem pre_at (n : Fin 4) (R : Fin 8192) (e : Fin 2048) :
    val_main_v30 (F := Ideal) x0 x1 x6 x7 (ix3 n R e) = (∑ k : Fin 2048, normed x0 x1 R k * x6 (ix2 k (gcol n e))) + x7 (ix2 n e) := by
  have e0 : val_main_v30 (F := Ideal) x0 x1 x6 x7 (ix3 n R e)
      = val_main_v26 (F := Ideal) x0 x1 x6 (ix3 n e R) + val_main_v29 (F := Ideal) x7 (ix3 n R e) := by
    rw [val_main_v30_apply, val_main_v27_apply]
    exact congrArg (· + _) (congrArg _ (idx3_eq rfl rfl rfl))
  have e1 : val_main_v29 (F := Ideal) x7 (ix3 n R e) = x7 (ix2 n e) := by
    unfold val_main_v29 val_main_v28
    pointwise
  rw [e0, e1, val_main_v26_apply]
  refine congrArg (· + _) (Finset.sum_congr rfl fun k _ => ?_)
  rw [show lidx_main_v26 (ix3 n e R) k = ix3 k n e from idx3_eq rfl rfl rfl, show ridx_main_v26 (ix3 n e R) k = ix2 R k from idx2_eq rfl rfl,
    norm_at, gate_weight_at, mul_comm]

/-- The gate at an index. -/
theorem gate_at (n : Fin 4) (R : Fin 8192) (e : Fin 2048) :
    val_main_v36 (F := Ideal) x0 x1 x6 x7 (ix3 n R e) = sigm (val_main_v30 (F := Ideal) x0 x1 x6 x7 (ix3 n R e)) := by
  unfold sigm val_main_v36 val_main_v35 val_main_v34 val_main_v33 val_main_v32 val_main_v31 val_main_cst_2 val_main_cst_3
  generalize val_main_v30 (F := Ideal) x0 x1 x6 x7 = v
  pointwise [word_one]

/-- The four branches put together, at an index: branch `n`'s row. -/
theorem stack_at (n : Fin 4) (R : Fin 8192) (u : Fin 512) :
    val_main_v21 (F := Ideal) x2 x3 x4 x5 (ix3 n R u) = (![x2, x3, x4, x5] : Fin 4 → FVec Ideal S8192x512 .bf16) n (ix2 R u) := by
  unfold val_main_v21 val_main_v20 val_main_v19 val_main_v18 val_main_v17 val_main_v16 val_main_v15 val_main_v14 val_main_v13
  fin_cases n
  · pointwise
  · pointwise
  · pointwise
  · pointwise

/-- A lifted branch at an index. -/
theorem lift_at (n : Fin 4) (R : Fin 8192) (e : Fin 2048) :
    val_main_v23 (F := Ideal) x2 x3 x4 x5 x8 (ix3 n R e)
      = ∑ u : Fin 512, (![x2, x3, x4, x5] : Fin 4 → FVec Ideal S8192x512 .bf16) n (ix2 R u) * x8 (ix3 n u e) := by
  rw [val_main_v23_apply]
  refine Finset.sum_congr rfl fun u _ => congrArg₂ (· * ·) ?_ ?_
  · rw [show lidx_main_v23 (ix3 n R e) u = ix3 n R u from idx3_eq rfl rfl rfl, stack_at]
  · rw [show ridx_main_v23 (ix3 n R e) u = ix3 n u e from idx3_eq rfl rfl rfl]; rfl

/-- The merged channels at an index. -/
theorem merged_at (R : Fin 8192) (e : Fin 2048) :
    val_main_v38 (F := Ideal) x0 x1 x2 x3 x4 x5 x6 x7 x8 (ix2 R e) = mix x0 x1 x2 x3 x4 x5 x6 x7 x8 R e := by
  rw [val_main_v38_apply]
  have each : ∀ n : Fin 4, val_main_v37 (F := Ideal) x0 x1 x2 x3 x4 x5 x6 x7 x8 (idx_main_v38 (ix2 R e) n)
      = arm x0 x1 x6 x7 x8 n ((![x2, x3, x4, x5] : Fin 4 → FVec Ideal S8192x512 .bf16) n) R e := fun n => by
    rw [show idx_main_v38 (ix2 R e) n = ix3 n R e from idx3_eq rfl rfl rfl, val_main_v37_apply, gate_at, pre_at, lift_at]
    rfl
  rw [Finset.sum_congr rfl fun n _ => each n, Fin.sum_univ_four]
  have z : val_main_cst_4 (F := Ideal) (Shape.Idx.first h_S_) = (0 : EReal) := by
    unfold val_main_cst_4
    show Ideal.ofBits .f32 0x00000000#32 = 0
    simp [Ideal.ofBits, Ideal.ieee]
  rw [z, zero_add]
  rfl

/-- The reference's result at an index. -/
theorem result_at (R : Fin 8192) (J : Fin 2048) :
    val_main_v41 (F := Ideal) x0 x1 x2 x3 x4 x5 x6 x7 x8 x9 (ix2 R J)
      = x0 (ix2 R J) + ∑ e : Fin 2048, mix x0 x1 x2 x3 x4 x5 x6 x7 x8 R e * x9 (ix2 e J) := by
  rw [val_main_v41_apply, val_main_v40_apply]
  refine congrArg (_ + ·) (Finset.sum_congr rfl fun e _ => congrArg₂ (· * ·) ?_ ?_)
  · rw [show lidx_main_v40 (ix2 R J) e = ix2 R e from idx2_eq rfl rfl]; exact merged_at x0 x1 x2 x3 x4 x5 x6 x7 x8 R e
  · rw [show ridx_main_v40 (ix2 R J) e = ix2 e J from idx2_eq rfl rfl]; rfl

end Cert.MergeRefIdeal.Own

end
-- ==== Proof.Cast.Index.lean ====
/-
  EQUALITY OF INDICES of rank three and four, coordinate by coordinate; and arrays set side by side, read at an index.
-/
module

public import Idealize.ShloMosaic.Lib.Pointwise
public import Idealize.ShloMosaic.Lib.Pipeline.Value

@[expose] public section

namespace Cert.Layer

open Idealize.ShloMosaic

theorem idx3_eq {a b c : ℕ} {i j : (⟨3, ![a, b, c]⟩ : Shape).Idx} (h0 : (i 0).val = (j 0).val) (h1 : (i 1).val = (j 1).val)
    (h2 : (i 2).val = (j 2).val) : i = j :=
  funext fun d => Fin.ext (match d with | ⟨0, _⟩ => h0 | ⟨1, _⟩ => h1 | ⟨2, _⟩ => h2)

theorem idx4_eq {a b c e : ℕ} {i j : (⟨4, ![a, b, c, e]⟩ : Shape).Idx} (h0 : (i 0).val = (j 0).val) (h1 : (i 1).val = (j 1).val)
    (h2 : (i 2).val = (j 2).val) (h3 : (i 3).val = (j 3).val) : i = j :=
  funext fun d => Fin.ext (match d with | ⟨0, _⟩ => h0 | ⟨1, _⟩ => h1 | ⟨2, _⟩ => h2 | ⟨3, _⟩ => h3)

/-- The zero corners of rank-three and rank-four blocks, as the loads and stores print them. -/
theorem corner3 : (![0, 0, 0] : Fin 3 → Nat) = fun _ => 0 := funext fun a => by fin_cases a <;> rfl
theorem corner4 : (![0, 0, 0, 0] : Fin 4 → Nat) = fun _ => 0 := funext fun a => by fin_cases a <;> rfl

/-- Arrays set side by side, read in the columns of one of them (`pre` columns come before it). -/
theorem cat_at {α : Type} {R n N : ℕ} (xs : List ((s : Shape) × (s.Idx → α)))
    (h : Shape.Concatenates (xs.map (·.1)) ⟨2, ![R, N]⟩ 1) (a : Fin R) (j : Fin N) (k : ℕ) (hk : k < xs.length)
    (x : (⟨2, ![R, n]⟩ : Shape).Idx → α) (hx : xs[k] = ⟨⟨2, ![R, n]⟩, x⟩) (pre : ℕ)
    (hpre : (((xs.take k).map (·.1)).map fun s => if h : s.rank = 2 then s.size ((1 : Fin 2).cast h.symm) else 0).sum = pre)
    (q : Fin n) (hq : pre + q.val = j.val) : concatenate ⟨2, ![R, N]⟩ 1 xs h (ix2 a j) = x (ix2 a q) :=
  concatenate_apply_piece 1 xs h (ix2 a j) k hk _ x hx rfl pre hpre (ix2 a q)
    (fun b => match b with | ⟨0, _⟩ => fun _ => rfl | ⟨1, _⟩ => fun hb => absurd rfl hb) hq

end Cert.Layer
-- ==== Proof.Rope.Array.lean ====
/-
  THE ROTARY TABLES: the kernel's two result arrays and the reference's two results are the same functions of the
  positions, element by element. Column `l` turns by the position times frequency `l mod 32`; the sine is negated in the
  first 32 columns of every 64.
-/
module

public import proofs.«01_k».proof.Proof.Gen.RopeIdeal.Value
public import proofs.«01_k».proof.Proof.Gen.RopeRefIdeal.Read
public import proofs.«01_k».proof.Proof.Cast.Index
public import Idealize.ShloMosaic.Lib.Pipeline.ValueKit.Geometry
public import proofs.«01_k».proof.Proof.Norm

@[expose] public section

noncomputable section

namespace Cert.RopeIdeal.Own

open Cert.RopeIdeal Cert.RopeIdeal.Gen Cert.Layer Idealize.ShloMosaic Idealize.ShloMosaic.TcCoe

variable (m : (ℓ : Loc nD τ sig) → Buf (Elt Ideal) ℓ) (c : Dev nD)

/-- The 32 frequencies. -/
def freq : FVec Ideal ⟨1, ![32]⟩ .f32 := Cert.RopeRefIdeal.Read.val_main_v9 (F := Ideal)

/-- The angle of column `l` at a position. -/
def angle (pos : FVec Ideal ⟨2, ![8192, 1]⟩ .f32) (r : Fin 8192) (l : Fin 128) : EReal :=
  pos (ix2 r 0) * freq (ix1 ⟨l.val % 32, by omega⟩)

/-- The two tables. -/
def cosTable (pos : FVec Ideal ⟨2, ![8192, 1]⟩ .f32) : FVec Ideal ⟨2, ![8192, 128]⟩ .f32 :=
  fun i => FloatOps.cos (F := Ideal) (φ := .f32) (angle pos (i 0) (i 1))
def sinTable (pos : FVec Ideal ⟨2, ![8192, 1]⟩ .f32) : FVec Ideal ⟨2, ![8192, 128]⟩ .f32 :=
  fun i => FloatOps.sin (F := Ideal) (φ := .f32) (angle pos (i 0) (i 1)) * (if (i 1).val % 64 < 32 then -1 else 1)

/-- The frequency row that the region finds. -/
theorem inv_at (l : Fin 128) : (V m c main_v13 : FVec Ideal S1x128 .f32) (ix2 0 l) = freq (ix1 ⟨l.val % 32, by omega⟩) := by
  have e : (V m c main_v13 : FVec Ideal S1x128 .f32) = broadcastInDim S1x128 ![1] bcast_S128_S1x128_1
      (shapeCast S128 (broadcastInDim S4x32 ![0, 1] bcast_S1x32_S4x32_0_1 (shapeCast S1x32 freq shapeCasts_S32_S1x32)) shapeCasts_S4x32_S128) := by
    unfold V hostOps0
    after_results
    rfl
  rw [e]
  generalize freq = f
  pointwise

/-- The sign row that the region finds. -/
theorem sgn_at (l : Fin 128) : (V m c main_v21 : FVec Ideal S1x128 .f32) (ix2 0 l) = if l.val % 64 < 32 then (-1 : EReal) else 1 := by
  have e : (V m c main_v21 : FVec Ideal S1x128 .f32) = broadcastInDim S1x128 ![1] bcast_S128_S1x128_1
      (shapeCast S128 (broadcastInDim S2x64 ![0, 1] bcast_S1x64_S2x64_0_1 (shapeCast S1x64
        (concatenate S64 0 [⟨S32, Host.negf (F := Ideal) (broadcastInDim S32 ![] bcast_S_S32 (constant S_ .f32 0x3F800000#32))⟩,
          ⟨S32, broadcastInDim S32 ![] bcast_S_S32 (constant S_ .f32 0x3F800000#32)⟩] concatenates_S32_S32_S64_d0) shapeCasts_S64_S1x64)) shapeCasts_S2x64_S128) := by
    unfold V hostOps0
    after_results
    rfl
  rw [e]
  pointwise
  split_ifs <;> rfl

/-- The windows' block numbers at a grid point. -/
theorem at_win : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) :=
  (by decide +kernel : ∀ t : Fin grid0.N, _)

/-- Row block `t` of the positions. -/
theorem blk0 (t : Fin cfg0.N) (r : Fin 512) (u : Fin 1) (R : Fin 8192) (hR : R.val = 512 * t.val + r.val) :
    (iblk m c 0 t : FVec Ideal S512x1 .f32) (ix2 r u) = (m ((c : Thread nD τ).loc main_arg0) : FVec Ideal ⟨2, ![8192, 1]⟩ .f32) (ix2 R 0) := by
  obtain ⟨⟨e0, e1⟩, -⟩ := at_win t
  unfold iblk
  rw [View.read_apply]
  show V m c main_arg0 _ = _
  rw [V_main_arg0]
  refine congrArg (m ((c : Thread nD τ).loc main_arg0)) (idx2_eq ?_ ?_)
  · show win0_0.index t 0 * 512 + 1 * r.val = R.val; rw [e0]; omega
  · show win0_0.index t 1 * 1 + 1 * u.val = 0; rw [e1]; omega

/-- The frequency row. -/
theorem blk1 (t : Fin cfg0.N) (l : Fin 128) : (iblk m c 1 t : FVec Ideal S1x128 .f32) (ix2 0 l) = freq (ix1 ⟨l.val % 32, by omega⟩) := by
  obtain ⟨-, ⟨e0, e1⟩, -⟩ := at_win t
  rw [← inv_at m c]
  unfold iblk
  rw [View.read_apply]
  show V m c main_v13 _ = _
  refine congrArg (V m c main_v13) (idx2_eq ?_ ?_)
  · show win0_1.index t 0 * 1 + 1 * 0 = 0; rw [e0]
  · show win0_1.index t 1 * 128 + 1 * l.val = l.val; rw [e1]; omega

/-- The sign row. -/
theorem blk2 (t : Fin cfg0.N) (l : Fin 128) : (iblk m c 2 t : FVec Ideal S1x128 .f32) (ix2 0 l) = if l.val % 64 < 32 then (-1 : EReal) else 1 := by
  obtain ⟨-, -, ⟨e0, e1⟩, -⟩ := at_win t
  rw [← sgn_at m c]
  unfold iblk
  rw [View.read_apply]
  show V m c main_v21 _ = _
  refine congrArg (V m c main_v21) (idx2_eq ?_ ?_)
  · show win0_2.index t 0 * 1 + 1 * 0 = 0; rw [e0]
  · show win0_2.index t 1 * 128 + 1 * l.val = l.val; rw [e1]; omega

/-- Where an element of an output block lies. -/
theorem out_emb3 (t : Fin cfg0.N) (r : Fin 512) (l : Fin 128) (R : Fin 8192) (hR : R.val = 512 * t.val + r.val) :
    ((cfg0.win 3).blk t).view.emb (ix2 r l) = ix2 (n0 := 8192) (n1 := 128) R l := by
  obtain ⟨-, -, -, ⟨e0, e1⟩, -⟩ := at_win t
  refine idx2_eq ?_ ?_
  · show win0_3.index t 0 * 512 + 1 * r.val = R.val; rw [e0]; omega
  · show win0_3.index t 1 * 128 + 1 * l.val = l.val; rw [e1]; omega

theorem out_emb4 (t : Fin cfg0.N) (r : Fin 512) (l : Fin 128) (R : Fin 8192) (hR : R.val = 512 * t.val + r.val) :
    ((cfg0.win 4).blk t).view.emb (ix2 r l) = ix2 (n0 := 8192) (n1 := 128) R l := by
  obtain ⟨-, -, -, -, e0, e1⟩ := at_win t
  refine idx2_eq ?_ ?_
  · show win0_4.index t 0 * 512 + 1 * r.val = R.val; rw [e0]; omega
  · show win0_4.index t 1 * 128 + 1 * l.val = l.val; rw [e1]; omega

/-- The angles that one grid point computes from its two blocks, read at any names of the two indices. -/
theorem angles (t : Fin cfg0.N) (r : Fin 512) (l : Fin 128) (R : Fin 8192) (hR : R.val = 512 * t.val + r.val)
    (x : FVec Ideal S512x1 .f32) (y : FVec Ideal S1x128 .f32) (hx : x = iblk m c 0 t) (hy : y = iblk m c 1 t) (i : S512x1.Idx) (j : S1x128.Idx)
    (hi : i = ix2 r 0) (hj : j = ix2 0 l) : (x i : EReal) * y j = angle (m ((c : Thread nD τ).loc main_arg0)) R l := by
  subst hx hy hi hj
  exact congrArg₂ (fun p q : EReal => p * q) (blk0 m c t r 0 R hR) (blk1 m c t l)

/-- What one grid point leaves in the two output blocks. -/
theorem block3 (t : Fin cfg0.N) (r : Fin 512) (l : Fin 128) (R : Fin 8192) (hR : R.val = 512 * t.val + r.val) :
    out0_3 (F := Ideal) (iblk m c 0 t) (iblk m c 1 t) (iblk m c 2 t) (ix2 r l) = cosTable (m ((c : Thread nD τ).loc main_arg0)) (ix2 R l) := by
  unfold out0_3
  rw [Value.canon3_eq, View.ld_unit_zero (S := S512x1) corner, View.ld_unit_zero (S := S1x128) corner]
  show _ = FloatOps.cos (F := Ideal) (φ := .f32) (angle _ R l)
  exact congrArg (FloatOps.cos (F := Ideal) (φ := .f32)) (angles m c t r l R hR _ _ rfl rfl _ _ (idx2_eq rfl rfl) (idx2_eq rfl rfl))

theorem block4 (t : Fin cfg0.N) (r : Fin 512) (l : Fin 128) (R : Fin 8192) (hR : R.val = 512 * t.val + r.val) :
    out0_4 (F := Ideal) (iblk m c 0 t) (iblk m c 1 t) (iblk m c 2 t) (ix2 r l) = sinTable (m ((c : Thread nD τ).loc main_arg0)) (ix2 R l) := by
  unfold out0_4
  rw [Value.canon4_eq, View.ld_unit_zero (S := S512x1) corner, View.ld_unit_zero (S := S1x128) corner, View.ld_unit_zero (S := S1x128) corner]
  show _ = FloatOps.sin (F := Ideal) (φ := .f32) (angle _ R l) * (if l.val % 64 < 32 then (-1 : EReal) else 1)
  exact congrArg₂ (fun p q : EReal => p * q) (congrArg (FloatOps.sin (F := Ideal) (φ := .f32))
    (angles m c t r l R hR _ _ rfl rfl _ _ (idx2_eq rfl rfl) (idx2_eq rfl rfl)))
    ((congrArg (iblk m c 2 t) (idx2_eq rfl rfl)).trans (blk2 m c t l))

/-- The two arrays after the run. -/
theorem array3 : (dats m 0 c).arrAt 3 cfg0.N = cosTable (m ((c : Thread nD τ).loc main_arg0)) := by
  have hN : cfg0.N = 16 := N_0
  refine (dats m 0 c).arrAt_eq_of_cover 3 _ (fun t _ => ?_) (fun i => ?_)
  · have ht : t.val < 16 := lt_of_lt_of_eq t.isLt hN
    funext y
    obtain ⟨r, l, rfl⟩ : ∃ (r : Fin 512) (l : Fin 128), y = ix2 r l := ⟨_, _, eq_ix2 y⟩
    rw [View.read_apply, out_emb3 t r l ⟨512 * t.val + r.val, by omega⟩ rfl, Value.flushed3, Pipeline.Window.cut_apply,
      show (cfg0.win 3).xinj (grid0.coords t) (ix2 r l) = ix2 r l from idx2_eq rfl rfl]
    exact block3 m c t r l ⟨512 * t.val + r.val, by omega⟩ rfl
  · obtain ⟨a, l, rfl⟩ : ∃ (a : Fin 8192) (l : Fin 128), i = ix2 a l := ⟨_, _, eq_ix2 i⟩
    have ht : a.val / 512 < cfg0.N := lt_of_lt_of_eq (by omega : a.val / 512 < 16) hN.symm
    refine ⟨⟨a.val / 512, ht⟩, flush0_3 _, ?_⟩
    rw [← out_emb3 ⟨a.val / 512, ht⟩ ⟨a.val % 512, by omega⟩ l a (by show a.val = 512 * (a.val / 512) + a.val % 512; omega)]
    exact View.emb_mem_set _ _

theorem array4 : (dats m 0 c).arrAt 4 cfg0.N = sinTable (m ((c : Thread nD τ).loc main_arg0)) := by
  have hN : cfg0.N = 16 := N_0
  refine (dats m 0 c).arrAt_eq_of_cover 4 _ (fun t _ => ?_) (fun i => ?_)
  · have ht : t.val < 16 := lt_of_lt_of_eq t.isLt hN
    funext y
    obtain ⟨r, l, rfl⟩ : ∃ (r : Fin 512) (l : Fin 128), y = ix2 r l := ⟨_, _, eq_ix2 y⟩
    rw [View.read_apply, out_emb4 t r l ⟨512 * t.val + r.val, by omega⟩ rfl, Value.flushed4, Pipeline.Window.cut_apply,
      show (cfg0.win 4).xinj (grid0.coords t) (ix2 r l) = ix2 r l from idx2_eq rfl rfl]
    exact block4 m c t r l ⟨512 * t.val + r.val, by omega⟩ rfl
  · obtain ⟨a, l, rfl⟩ : ∃ (a : Fin 8192) (l : Fin 128), i = ix2 a l := ⟨_, _, eq_ix2 i⟩
    have ht : a.val / 512 < cfg0.N := lt_of_lt_of_eq (by omega : a.val / 512 < 16) hN.symm
    refine ⟨⟨a.val / 512, ht⟩, flush0_4 _, ?_⟩
    rw [← out_emb4 ⟨a.val / 512, ht⟩ ⟨a.val % 512, by omega⟩ l a (by show a.val = 512 * (a.val / 512) + a.val % 512; omega)]
    exact View.emb_mem_set _ _

open Cert.RopeRefIdeal.Read

/-- The reference's angle in a quarter of the columns. -/
theorem ref_angle (pos : FVec Ideal ⟨2, ![8192, 1]⟩ .f32) (a : Fin 8192) (l : Fin 128) (q : Fin 32) (h : l.val % 32 = q.val) :
    val_main_v13 (F := Ideal) pos (ix2 a q) = angle pos a l := by
  rw [val_main_v13_apply, val_main_v11_apply, val_main_v12_apply, val_main_v10_apply]
  refine congrArg₂ (· * ·) (congrArg pos (idx2_eq rfl rfl)) ?_
  exact congrArg freq (funext fun d => Fin.ext (match d with | ⟨0, _⟩ => h.symm))

/-- The reference's cosine and sine there. -/
theorem ref_cos (pos : FVec Ideal ⟨2, ![8192, 1]⟩ .f32) (a : Fin 8192) (l : Fin 128) (q : Fin 32) (h : l.val % 32 = q.val) :
    val_main_v14 (F := Ideal) pos (ix2 a q) = FloatOps.cos (F := Ideal) (φ := .f32) (angle pos a l) := by
  rw [val_main_v14_apply, ref_angle pos a l q h]
  rfl

theorem ref_sin (pos : FVec Ideal ⟨2, ![8192, 1]⟩ .f32) (a : Fin 8192) (l : Fin 128) (q : Fin 32) (h : l.val % 32 = q.val) :
    val_main_v15 (F := Ideal) pos (ix2 a q) = FloatOps.sin (F := Ideal) (φ := .f32) (angle pos a l) := by
  rw [val_main_v15_apply, ref_angle pos a l q h]
  rfl

theorem times_minus_one (x : EReal) : -x = x * -1 := by rw [mul_neg, mul_one]

/-- The reference's two results. -/
theorem reference_cos (pos : FVec Ideal ⟨2, ![8192, 1]⟩ .f32) : val_main_v16 (F := Ideal) pos = cosTable pos := by
  funext i
  obtain ⟨a, l, rfl⟩ : ∃ (a : Fin 8192) (l : Fin 128), i = ix2 a l := ⟨_, _, eq_ix2 i⟩
  show _ = FloatOps.cos (F := Ideal) (φ := .f32) (angle pos a l)
  have hl := l.isLt
  unfold val_main_v16
  by_cases h0 : l.val < 32
  · refine (cat_at _ _ a l 0 (by simp) (val_main_v14 (F := Ideal) pos) rfl 0 (by simp) ⟨l.val - 0, by omega⟩ (by show 0 + (l.val - 0) = l.val; omega)).trans ?_
    exact ref_cos pos a l _ (by show l.val % 32 = l.val - 0; omega)
  by_cases h1 : l.val < 64
  · refine (cat_at _ _ a l 1 (by simp) (val_main_v14 (F := Ideal) pos) rfl 32 (by simp) ⟨l.val - 32, by omega⟩ (by show 32 + (l.val - 32) = l.val; omega)).trans ?_
    exact ref_cos pos a l _ (by show l.val % 32 = l.val - 32; omega)
  by_cases h2 : l.val < 96
  · refine (cat_at _ _ a l 2 (by simp) (val_main_v14 (F := Ideal) pos) rfl 64 (by simp) ⟨l.val - 64, by omega⟩ (by show 64 + (l.val - 64) = l.val; omega)).trans ?_
    exact ref_cos pos a l _ (by show l.val % 32 = l.val - 64; omega)
  · refine (cat_at _ _ a l 3 (by simp) (val_main_v14 (F := Ideal) pos) rfl 96 (by simp) ⟨l.val - 96, by omega⟩ (by show 96 + (l.val - 96) = l.val; omega)).trans ?_
    exact ref_cos pos a l _ (by show l.val % 32 = l.val - 96; omega)

theorem reference_sin (pos : FVec Ideal ⟨2, ![8192, 1]⟩ .f32) : val_main_v19 (F := Ideal) pos = sinTable pos := by
  funext i
  obtain ⟨a, l, rfl⟩ : ∃ (a : Fin 8192) (l : Fin 128), i = ix2 a l := ⟨_, _, eq_ix2 i⟩
  show _ = FloatOps.sin (F := Ideal) (φ := .f32) (angle pos a l) * (if l.val % 64 < 32 then (-1 : EReal) else 1)
  have hl := l.isLt
  unfold val_main_v19
  by_cases h0 : l.val < 32
  · refine (cat_at _ _ a l 0 (by simp) (val_main_v17 (F := Ideal) pos) rfl 0 (by simp) ⟨l.val - 0, by omega⟩ (by show 0 + (l.val - 0) = l.val; omega)).trans ?_
    rw [if_pos (by omega), ← times_minus_one, val_main_v17_apply, ref_sin pos a l _ (by show l.val % 32 = l.val - 0; omega)]
    rfl
  by_cases h1 : l.val < 64
  · refine (cat_at _ _ a l 1 (by simp) (val_main_v15 (F := Ideal) pos) rfl 32 (by simp) ⟨l.val - 32, by omega⟩ (by show 32 + (l.val - 32) = l.val; omega)).trans ?_
    rw [if_neg (by omega), mul_one]
    exact ref_sin pos a l _ (by show l.val % 32 = l.val - 32; omega)
  by_cases h2 : l.val < 96
  · refine (cat_at _ _ a l 2 (by simp) (val_main_v18 (F := Ideal) pos) rfl 64 (by simp) ⟨l.val - 64, by omega⟩ (by show 64 + (l.val - 64) = l.val; omega)).trans ?_
    rw [if_pos (by omega), ← times_minus_one, val_main_v18_apply, ref_sin pos a l _ (by show l.val % 32 = l.val - 64; omega)]
    rfl
  · refine (cat_at _ _ a l 3 (by simp) (val_main_v15 (F := Ideal) pos) rfl 96 (by simp) ⟨l.val - 96, by omega⟩ (by show 96 + (l.val - 96) = l.val; omega)).trans ?_
    rw [if_neg (by omega), mul_one]
    exact ref_sin pos a l _ (by show l.val % 32 = l.val - 96; omega)

end Cert.RopeIdeal.Own

end
-- ==== Proof.Cast.Weight.lean ====
/-
  THE CAST OF ONE LAYER'S WEIGHT: the kernel's result array and the reference's result are both the last layer of the
  stacked weight, element by element (over the reals a cast to a narrower format changes nothing).
-/
module

public import proofs.«01_k».proof.Proof.Gen.WeightIdeal.Value
public import proofs.«01_k».proof.Proof.Gen.WeightRefIdeal.Read
public import proofs.«01_k».proof.Proof.Cast.Index
public import Idealize.ShloMosaic.Lib.Pipeline.ValueKit.Geometry
public import proofs.«01_k».proof.Proof.Norm

@[expose] public section

noncomputable section

namespace Cert.WeightIdeal.Own

open Cert.WeightIdeal Cert.WeightIdeal.Gen Cert.Layer Idealize.ShloMosaic Idealize.ShloMosaic.TcCoe

variable (m : (ℓ : Loc nD τ sig) → Buf (Elt Ideal) ℓ) (c : Dev nD)

/-- The last layer of the stacked weight. -/
def layer (w : FVec Ideal ⟨3, ![4, 2048, 5632]⟩ .f32) : FVec Ideal ⟨2, ![2048, 5632]⟩ .bf16 := fun i => w (ix3 3 (i 0) (i 1))

/-- The windows' block numbers at a grid point. -/
theorem at_win : ∀ t : Fin cfg0.N, (win0_0.index t 0 = 3 ∧ win0_0.index t 1 = t.val ∧ win0_0.index t 2 = 0)
    ∧ (win0_1.index t 0 = t.val ∧ win0_1.index t 1 = 0) :=
  (by decide +kernel : ∀ t : Fin grid0.N, _)

/-- Row block `t` of the layer. -/
theorem blk0 (t : Fin cfg0.N) (u : Fin 1) (r : Fin 128) (k : Fin 5632) (R : Fin 2048) (hR : R.val = 128 * t.val + r.val) :
    (iblk m c 0 t : FVec Ideal S1x128x5632 .f32) (ix3 u r k)
      = (m ((c : Thread nD τ).loc main_arg0) : FVec Ideal ⟨3, ![4, 2048, 5632]⟩ .f32) (ix3 3 R k) := by
  obtain ⟨⟨e0, e1, e2⟩, -⟩ := at_win t
  unfold iblk
  rw [View.read_apply]
  show V m c main_arg0 _ = _
  rw [V_main_arg0]
  refine congrArg (m ((c : Thread nD τ).loc main_arg0)) (idx3_eq ?_ ?_ ?_)
  · show win0_0.index t 0 * 1 + 1 * u.val = 3; rw [e0]; omega
  · show win0_0.index t 1 * 128 + 1 * r.val = R.val; rw [e1]; omega
  · show win0_0.index t 2 * 5632 + 1 * k.val = k.val; rw [e2]; omega

/-- Where an element of an output block lies. -/
theorem out_emb (t : Fin cfg0.N) (r : Fin 128) (k : Fin 5632) (R : Fin 2048) (hR : R.val = 128 * t.val + r.val) :
    ((cfg0.win 1).blk t).view.emb (ix2 r k) = ix2 (n0 := 2048) (n1 := 5632) R k := by
  obtain ⟨-, e0, e1⟩ := at_win t
  refine idx2_eq ?_ ?_
  · show win0_1.index t 0 * 128 + 1 * r.val = R.val; rw [e0]; omega
  · show win0_1.index t 1 * 5632 + 1 * k.val = k.val; rw [e1]; omega

/-- What one grid point leaves in the output block. -/
theorem block (t : Fin cfg0.N) (r : Fin 128) (k : Fin 5632) (R : Fin 2048) (hR : R.val = 128 * t.val + r.val) :
    out0_1 (F := Ideal) (iblk m c 0 t) (ix2 r k) = layer (m ((c : Thread nD τ).loc main_arg0)) (ix2 R k) := by
  unfold out0_1
  rw [Value.canon1_eq, View.ld_unit_zero (S := S1x128x5632) corner3]
  refine Eq.trans ?_ (blk0 m c t 0 r k R hR)
  exact congrArg (iblk m c 0 t) (idx3_eq rfl rfl rfl)

/-- The array after the run. -/
theorem array : (dats m 0 c).arrAt 1 cfg0.N = layer (m ((c : Thread nD τ).loc main_arg0)) := by
  have hN : cfg0.N = 16 := N_0
  refine (dats m 0 c).arrAt_eq_of_cover 1 _ (fun t _ => ?_) (fun i => ?_)
  · have ht : t.val < 16 := lt_of_lt_of_eq t.isLt hN
    funext y
    obtain ⟨r, k, rfl⟩ : ∃ (r : Fin 128) (k : Fin 5632), y = ix2 r k := ⟨_, _, eq_ix2 y⟩
    rw [View.read_apply, out_emb t r k ⟨128 * t.val + r.val, by omega⟩ rfl, Value.flushed1, Pipeline.Window.cut_apply,
      show (cfg0.win 1).xinj (grid0.coords t) (ix2 r k) = ix2 r k from idx2_eq rfl rfl]
    exact block m c t r k ⟨128 * t.val + r.val, by omega⟩ rfl
  · obtain ⟨a, k, rfl⟩ : ∃ (a : Fin 2048) (k : Fin 5632), i = ix2 a k := ⟨_, _, eq_ix2 i⟩
    have ht : a.val / 128 < cfg0.N := lt_of_lt_of_eq (by omega : a.val / 128 < 16) hN.symm
    refine ⟨⟨a.val / 128, ht⟩, flush0_1 _, ?_⟩
    rw [← out_emb ⟨a.val / 128, ht⟩ ⟨a.val % 128, by omega⟩ k a (by show a.val = 128 * (a.val / 128) + a.val % 128; omega)]
    exact View.emb_mem_set _ _

/-- The reference's result. -/
theorem reference (w : FVec Ideal ⟨3, ![4, 2048, 5632]⟩ .f32) : Cert.WeightRefIdeal.Read.val_main_v2 (F := Ideal) w = layer w := by
  funext i
  obtain ⟨a, k, rfl⟩ : ∃ (a : Fin 2048) (k : Fin 5632), i = ix2 a k := ⟨_, _, eq_ix2 i⟩
  rw [Cert.WeightRefIdeal.Read.val_main_v2_apply, Cert.WeightRefIdeal.Read.val_main_v1_apply, Cert.WeightRefIdeal.Read.val_main_v0_apply]
  refine congrArg w (idx3_eq ?_ ?_ ?_)
  · rfl
  · show (a.val * 5632 + k.val) / 5632 % 2048 = a.val; omega
  · show (a.val * 5632 + k.val) % 5632 = k.val; omega

end Cert.WeightIdeal.Own

end
-- ==== Proof.Cast.Branch.lean ====
/-
  THE CAST OF ONE LAYER'S BRANCH WEIGHTS: the kernel's result array and the reference's result are both the last layer
  of the stacked weights, element by element (over the reals a cast to a narrower format changes nothing).
-/
module

public import proofs.«01_k».proof.Proof.Gen.BranchIdeal.Value
public import proofs.«01_k».proof.Proof.Gen.BranchRefIdeal.Read
public import proofs.«01_k».proof.Proof.Cast.Index
public import Idealize.ShloMosaic.Lib.Pipeline.ValueKit.Geometry

@[expose] public section

noncomputable section

namespace Cert.BranchIdeal.Own

open Cert.BranchIdeal Cert.BranchIdeal.Gen Cert.Layer Idealize.ShloMosaic Idealize.ShloMosaic.TcCoe

variable (m : (ℓ : Loc nD τ sig) → Buf (Elt Ideal) ℓ) (c : Dev nD)

/-- The last layer of the stacked weights. -/
def layer (w : FVec Ideal ⟨4, ![4, 4, 512, 2048]⟩ .f32) : FVec Ideal ⟨3, ![4, 512, 2048]⟩ .bf16 :=
  fun i => w (ix4 3 (i 0) (i 1) (i 2))

/-- The windows' block numbers at a grid point. -/
theorem at_win : ∀ t : Fin cfg0.N, (win0_0.index t 0 = 3 ∧ win0_0.index t 1 = t.val ∧ win0_0.index t 2 = 0 ∧ win0_0.index t 3 = 0)
    ∧ (win0_1.index t 0 = t.val ∧ win0_1.index t 1 = 0 ∧ win0_1.index t 2 = 0) :=
  (by decide +kernel : ∀ t : Fin grid0.N, _)

/-- Branch `t` of the layer. -/
theorem blk0 (t : Fin cfg0.N) (u v : Fin 1) (r : Fin 512) (k : Fin 2048) (T : Fin 4) (hT : T.val = t.val) :
    (iblk m c 0 t : FVec Ideal S1x1x512x2048 .f32) (ix4 u v r k)
      = (m ((c : Thread nD τ).loc main_arg0) : FVec Ideal ⟨4, ![4, 4, 512, 2048]⟩ .f32) (ix4 3 T r k) := by
  obtain ⟨⟨e0, e1, e2, e3⟩, -⟩ := at_win t
  unfold iblk
  rw [View.read_apply]
  show V m c main_arg0 _ = _
  rw [V_main_arg0]
  refine congrArg (m ((c : Thread nD τ).loc main_arg0)) (idx4_eq ?_ ?_ ?_ ?_)
  · show win0_0.index t 0 * 1 + 1 * u.val = 3; rw [e0]; omega
  · show win0_0.index t 1 * 1 + 1 * v.val = T.val; rw [e1]; omega
  · show win0_0.index t 2 * 512 + 1 * r.val = r.val; rw [e2]; omega
  · show win0_0.index t 3 * 2048 + 1 * k.val = k.val; rw [e3]; omega

/-- Where an element of an output block lies. -/
theorem out_emb (t : Fin cfg0.N) (u : Fin 1) (r : Fin 512) (k : Fin 2048) (T : Fin 4) (hT : T.val = t.val) :
    ((cfg0.win 1).blk t).view.emb (ix3 u r k) = ix3 (n0 := 4) (n1 := 512) (n2 := 2048) T r k := by
  obtain ⟨-, e0, e1, e2⟩ := at_win t
  refine idx3_eq ?_ ?_ ?_
  · show win0_1.index t 0 * 1 + 1 * u.val = T.val; rw [e0]; omega
  · show win0_1.index t 1 * 512 + 1 * r.val = r.val; rw [e1]; omega
  · show win0_1.index t 2 * 2048 + 1 * k.val = k.val; rw [e2]; omega

/-- What one grid point leaves in the output block. -/
theorem block (t : Fin cfg0.N) (u : Fin 1) (r : Fin 512) (k : Fin 2048) (T : Fin 4) (hT : T.val = t.val) :
    out0_1 (F := Ideal) (iblk m c 0 t) (ix3 u r k) = layer (m ((c : Thread nD τ).loc main_arg0)) (ix3 T r k) := by
  unfold out0_1
  rw [Value.canon1_eq, View.ld_unit_zero (S := S1x1x512x2048) corner4]
  refine Eq.trans ?_ (blk0 m c t 0 0 r k T hT)
  exact congrArg (iblk m c 0 t) (idx4_eq rfl rfl rfl rfl)

/-- The array after the run. -/
theorem array : (dats m 0 c).arrAt 1 cfg0.N = layer (m ((c : Thread nD τ).loc main_arg0)) := by
  have hN : cfg0.N = 4 := N_0
  refine (dats m 0 c).arrAt_eq_of_cover 1 _ (fun t _ => ?_) (fun i => ?_)
  · have ht : t.val < 4 := lt_of_lt_of_eq t.isLt hN
    funext y
    obtain ⟨u, r, k, rfl⟩ : ∃ (u : Fin 1) (r : Fin 512) (k : Fin 2048), y = ix3 u r k := ⟨_, _, _, eq_ix3 y⟩
    rw [View.read_apply, out_emb t u r k ⟨t.val, ht⟩ rfl, Value.flushed1, Pipeline.Window.cut_apply,
      show (cfg0.win 1).xinj (grid0.coords t) (ix3 u r k) = ix3 u r k from idx3_eq rfl rfl rfl]
    exact block m c t u r k ⟨t.val, ht⟩ rfl
  · obtain ⟨a, r, k, rfl⟩ : ∃ (a : Fin 4) (r : Fin 512) (k : Fin 2048), i = ix3 a r k := ⟨_, _, _, eq_ix3 i⟩
    have ht : a.val < cfg0.N := lt_of_lt_of_eq a.isLt hN.symm
    refine ⟨⟨a.val, ht⟩, flush0_1 _, ?_⟩
    rw [← out_emb ⟨a.val, ht⟩ 0 r k a rfl]
    exact View.emb_mem_set _ _

/-- The reference's result. -/
theorem reference (w : FVec Ideal ⟨4, ![4, 4, 512, 2048]⟩ .f32) : Cert.BranchRefIdeal.Read.val_main_v2 (F := Ideal) w = layer w := by
  funext i
  obtain ⟨a, r, k, rfl⟩ : ∃ (a : Fin 4) (r : Fin 512) (k : Fin 2048), i = ix3 a r k := ⟨_, _, _, eq_ix3 i⟩
  rw [Cert.BranchRefIdeal.Read.val_main_v2_apply, Cert.BranchRefIdeal.Read.val_main_v1_apply, Cert.BranchRefIdeal.Read.val_main_v0_apply]
  refine congrArg w (idx4_eq ?_ ?_ ?_ ?_)
  · rfl
  · show ((a.val * 512 + r.val) * 2048 + k.val) / 1048576 % 4 = a.val; omega
  · show ((a.val * 512 + r.val) * 2048 + k.val) / 2048 % 512 = r.val; omega
  · show ((a.val * 512 + r.val) * 2048 + k.val) % 2048 = k.val; omega

end Cert.BranchIdeal.Own

end
-- ==== Proof.Cast.GateWeight.lean ====
/-
  THE CAST OF ONE LAYER'S GATE WEIGHTS, the four gates side by side: the kernel's result array and the reference's result
  are both the last layer of the stacked weights with its two last axes read as one, element by element (over the reals
  a cast to a narrower format changes nothing).
-/
module

public import proofs.«01_k».proof.Proof.Gen.GateWeightIdeal.Value
public import proofs.«01_k».proof.Proof.Gen.GateWeightRefIdeal.Read
public import proofs.«01_k».proof.Proof.Cast.Index
public import Idealize.ShloMosaic.Lib.Pipeline.ValueKit.Geometry
public import proofs.«01_k».proof.Proof.Norm

@[expose] public section

noncomputable section

namespace Cert.GateWeightIdeal.Own

open Cert.GateWeightIdeal Cert.GateWeightIdeal.Gen Cert.Layer Idealize.ShloMosaic Idealize.ShloMosaic.TcCoe

variable (m : (ℓ : Loc nD τ sig) → Buf (Elt Ideal) ℓ) (c : Dev nD)

/-- Column `j` of the gates side by side is column `j mod 2048` of gate `j / 2048`. -/
def gate (j : Fin 8192) : Fin 4 := ⟨j.val / 2048, by omega⟩
def col (j : Fin 8192) : Fin 2048 := ⟨j.val % 2048, by omega⟩

/-- The last layer of the stacked weights, its gates side by side. -/
def layer (w : FVec Ideal ⟨4, ![4, 2048, 4, 2048]⟩ .f32) : FVec Ideal ⟨2, ![2048, 8192]⟩ .bf16 :=
  fun i => w (ix4 3 (i 0) (gate (i 1)) (col (i 1)))

/-- The windows' block numbers at a grid point. -/
theorem at_win : ∀ t : Fin cfg0.N, (win0_0.index t 0 = 3 ∧ win0_0.index t 1 = t.val ∧ win0_0.index t 2 = 0 ∧ win0_0.index t 3 = 0)
    ∧ (win0_1.index t 0 = t.val ∧ win0_1.index t 1 = 0) :=
  (by decide +kernel : ∀ t : Fin grid0.N, _)

/-- Row block `t` of the layer. -/
theorem blk0 (t : Fin cfg0.N) (u : Fin 1) (r : Fin 64) (g : Fin 4) (k : Fin 2048) (R : Fin 2048) (hR : R.val = 64 * t.val + r.val) :
    (iblk m c 0 t : FVec Ideal S1x64x4x2048 .f32) (ix4 u r g k)
      = (m ((c : Thread nD τ).loc main_arg0) : FVec Ideal ⟨4, ![4, 2048, 4, 2048]⟩ .f32) (ix4 3 R g k) := by
  obtain ⟨⟨e0, e1, e2, e3⟩, -⟩ := at_win t
  unfold iblk
  rw [View.read_apply]
  show V m c main_arg0 _ = _
  rw [V_main_arg0]
  refine congrArg (m ((c : Thread nD τ).loc main_arg0)) (idx4_eq ?_ ?_ ?_ ?_)
  · show win0_0.index t 0 * 1 + 1 * u.val = 3; rw [e0]; omega
  · show win0_0.index t 1 * 64 + 1 * r.val = R.val; rw [e1]; omega
  · show win0_0.index t 2 * 4 + 1 * g.val = g.val; rw [e2]; omega
  · show win0_0.index t 3 * 2048 + 1 * k.val = k.val; rw [e3]; omega

/-- Where an element of an output block lies. -/
theorem out_emb (t : Fin cfg0.N) (r : Fin 64) (k : Fin 8192) (R : Fin 2048) (hR : R.val = 64 * t.val + r.val) :
    ((cfg0.win 1).blk t).view.emb (ix2 r k) = ix2 (n0 := 2048) (n1 := 8192) R k := by
  obtain ⟨-, e0, e1⟩ := at_win t
  refine idx2_eq ?_ ?_
  · show win0_1.index t 0 * 64 + 1 * r.val = R.val; rw [e0]; omega
  · show win0_1.index t 1 * 8192 + 1 * k.val = k.val; rw [e1]; omega

/-- One gate's rows, cast and stored at their columns. -/
theorem cast_at (v : FVec Ideal S1x64x1x2048 .f32) (x : S64x2048.Idx) : k0_pay1 (F := Ideal) v x = v (ix4 0 (x 0) 0 (x 1)) := by
  show shapeCast S64x2048 v _ x = _
  exact shapeCast_apply _ _ x _ (by
    rw [Shape.rowMajor_val_four, Shape.rowMajor_val_two]
    show ((0 * 64 + (x 0).val) * 1 + 0) * 2048 + (x 1).val = (x 0).val * 2048 + (x 1).val
    omega)

/-- What one grid point leaves in the output block: the gates of its rows side by side. -/
theorem out_at (x0 : FVec Ideal S1x64x4x2048 .f32) (y : S64x8192.Idx) :
    out0_1 (F := Ideal) x0 y = x0 (ix4 0 (y 0) (gate (y 1)) (col (y 1))) := by
  unfold out0_1
  refine View.canon_apply_of_pieces (Val := Elt Ideal) (e := .bf16) (fun y : S64x8192.Idx => x0 (ix4 0 (y 0) (gate (y 1)) (col (y 1)))) _ ?_ y (cover0_1 _ _ _ _ y)
  intro pc hpc
  rcases List.mem_cons.mp hpc with rfl | hpc
  · intro x
    have h1 : (x 1).val < 2048 := (x 1).isLt
    refine (cast_at _ x).trans (congrArg x0 (idx4_eq rfl rfl ?_ ?_))
    · show 3 + 1 * 0 = (6144 + 1 * (x 1).val) / 2048; omega
    · show 0 + 1 * (x 1).val = (6144 + 1 * (x 1).val) % 2048; omega
  rcases List.mem_cons.mp hpc with rfl | hpc
  · intro x
    have h1 : (x 1).val < 2048 := (x 1).isLt
    refine (cast_at _ x).trans (congrArg x0 (idx4_eq rfl rfl ?_ ?_))
    · show 2 + 1 * 0 = (4096 + 1 * (x 1).val) / 2048; omega
    · show 0 + 1 * (x 1).val = (4096 + 1 * (x 1).val) % 2048; omega
  rcases List.mem_cons.mp hpc with rfl | hpc
  · intro x
    have h1 : (x 1).val < 2048 := (x 1).isLt
    refine (cast_at _ x).trans (congrArg x0 (idx4_eq rfl rfl ?_ ?_))
    · show 1 + 1 * 0 = (2048 + 1 * (x 1).val) / 2048; omega
    · show 0 + 1 * (x 1).val = (2048 + 1 * (x 1).val) % 2048; omega
  rcases List.mem_cons.mp hpc with rfl | hpc
  · intro x
    have h1 : (x 1).val < 2048 := (x 1).isLt
    refine (cast_at _ x).trans (congrArg x0 (idx4_eq rfl rfl ?_ ?_))
    · show 0 + 1 * 0 = (0 + 1 * (x 1).val) / 2048; omega
    · show 0 + 1 * (x 1).val = (0 + 1 * (x 1).val) % 2048; omega
  nomatch hpc

/-- What one grid point leaves in the output block, placed in the argument. -/
theorem block (t : Fin cfg0.N) (r : Fin 64) (k : Fin 8192) (R : Fin 2048) (hR : R.val = 64 * t.val + r.val) :
    out0_1 (F := Ideal) (iblk m c 0 t) (ix2 r k) = layer (m ((c : Thread nD τ).loc main_arg0)) (ix2 R k) :=
  (out_at (iblk m c 0 t) (ix2 r k)).trans (blk0 m c t 0 r (gate k) (col k) R hR)

/-- The array after the run. -/
theorem array : (dats m 0 c).arrAt 1 cfg0.N = layer (m ((c : Thread nD τ).loc main_arg0)) := by
  have hN : cfg0.N = 32 := N_0
  refine (dats m 0 c).arrAt_eq_of_cover 1 _ (fun t _ => ?_) (fun i => ?_)
  · have ht : t.val < 32 := lt_of_lt_of_eq t.isLt hN
    funext y
    obtain ⟨r, k, rfl⟩ : ∃ (r : Fin 64) (k : Fin 8192), y = ix2 r k := ⟨_, _, eq_ix2 y⟩
    rw [View.read_apply, out_emb t r k ⟨64 * t.val + r.val, by omega⟩ rfl, Value.flushed1, Pipeline.Window.cut_apply,
      show (cfg0.win 1).xinj (grid0.coords t) (ix2 r k) = ix2 r k from idx2_eq rfl rfl]
    exact block m c t r k ⟨64 * t.val + r.val, by omega⟩ rfl
  · obtain ⟨a, k, rfl⟩ : ∃ (a : Fin 2048) (k : Fin 8192), i = ix2 a k := ⟨_, _, eq_ix2 i⟩
    have ht : a.val / 64 < cfg0.N := lt_of_lt_of_eq (by omega : a.val / 64 < 32) hN.symm
    refine ⟨⟨a.val / 64, ht⟩, flush0_1 _, ?_⟩
    rw [← out_emb ⟨a.val / 64, ht⟩ ⟨a.val % 64, by omega⟩ k a (by show a.val = 64 * (a.val / 64) + a.val % 64; omega)]
    exact View.emb_mem_set _ _

/-- The reference's result. -/
theorem reference (w : FVec Ideal ⟨4, ![4, 2048, 4, 2048]⟩ .f32) :
    Cert.GateWeightRefIdeal.Read.val_main_v3 (F := Ideal) w = layer w := by
  funext i
  obtain ⟨a, k, rfl⟩ : ∃ (a : Fin 2048) (k : Fin 8192), i = ix2 a k := ⟨_, _, eq_ix2 i⟩
  rw [Cert.GateWeightRefIdeal.Read.val_main_v3_apply, Cert.GateWeightRefIdeal.Read.val_main_v2_apply,
    Cert.GateWeightRefIdeal.Read.val_main_v1_apply, Cert.GateWeightRefIdeal.Read.val_main_v0_apply]
  refine congrArg w (idx4_eq ?_ ?_ ?_ ?_)
  · rfl
  · show ((((a.val * 8192 + k.val) / 8192 * 4 + (a.val * 8192 + k.val) / 2048 % 4) * 2048 + (a.val * 8192 + k.val) % 2048)) / 8192 % 2048 = a.val; omega
  · show ((((a.val * 8192 + k.val) / 8192 * 4 + (a.val * 8192 + k.val) / 2048 % 4) * 2048 + (a.val * 8192 + k.val) % 2048)) / 2048 % 4 = k.val / 2048; omega
  · show ((((a.val * 8192 + k.val) / 8192 * 4 + (a.val * 8192 + k.val) / 2048 % 4) * 2048 + (a.val * 8192 + k.val) % 2048)) % 2048 = k.val % 2048; omega

end Cert.GateWeightIdeal.Own

end
-- ==== Proof.Cast.InWeight.lean ====
/-
  THE INPUT WEIGHT OF ONE LAYER, its column blocks put into the order in which the branches read them and padded with
  zero columns: the kernel's result array and the reference's result are the same function of the stacked weight,
  element by element (over the reals a cast to a narrower format changes nothing).
-/
module

public import proofs.«01_k».proof.Proof.Gen.InWeightIdeal.Value
public import proofs.«01_k».proof.Proof.Gen.InWeightRefIdeal.Read
public import proofs.«01_k».proof.Proof.Cast.Index
public import Idealize.ShloMosaic.Lib.Pipeline.ValueKit.Geometry
public import proofs.«01_k».proof.Proof.Norm
public import Idealize.ShloMosaic.Lib.Exec

@[expose] public section

noncomputable section

namespace Cert.InWeightIdeal.Own

open Cert.InWeightIdeal Cert.InWeightIdeal.Gen Cert.Layer Idealize.ShloMosaic Idealize.ShloMosaic.TcCoe

variable (m : (ℓ : Loc nD τ sig) → Buf (Elt Ideal) ℓ) (c : Dev nD)

/-- The column of the stored weight that result column `j` shows; 7960 columns are stored, and 7960 stands for a zero
    column. -/
def src (j : ℕ) : ℕ :=
  if j < 2048 then j else if j < 3584 then j + 8 else if j < 7680 then j + 264 else if j < 7936 then j - 4088
  else if j < 7944 then j - 5888 else if j < 7960 then j else 7960

/-- A row of the stored weight, read at the column that result column `j` shows. -/
def pick (row : Fin 7960 → EReal) (j : ℕ) : EReal := if h : src j < 7960 then row ⟨src j, h⟩ else 0

/-- Reading at a column is reading the row at its number. -/
theorem pick_eq (row : Fin 7960 → EReal) (j : ℕ) (k : Fin 7960) (h : src j = k.val) : pick row j = row k := by
  unfold pick
  rw [dif_pos (by omega)]
  exact congrArg row (Fin.ext h)

theorem pick_zero (row : Fin 7960 → EReal) (j : ℕ) (h : 7960 ≤ j) : pick row j = 0 := by
  unfold pick
  rw [dif_neg (by unfold src; split_ifs <;> omega)]

/-- The last layer of the stacked weight, its columns in the branches' order. -/
def layer (w : FVec Ideal ⟨3, ![4, 2048, 7960]⟩ .f32) : FVec Ideal ⟨2, ![2048, 8192]⟩ .bf16 :=
  fun i => pick (fun k => w (ix3 3 (i 0) k)) (i 1).val

/-- The windows' block numbers at a grid point. -/
theorem at_win : ∀ t : Fin cfg0.N, (win0_0.index t 0 = 3 ∧ win0_0.index t 1 = t.val ∧ win0_0.index t 2 = 0)
    ∧ (win0_1.index t 0 = t.val ∧ win0_1.index t 1 = 0) :=
  (by decide +kernel : ∀ t : Fin grid0.N, _)

/-- Row block `t` of the layer. -/
theorem blk0 (t : Fin cfg0.N) (u : Fin 1) (r : Fin 256) (k : Fin 7960) (R : Fin 2048) (hR : R.val = 256 * t.val + r.val) :
    (iblk m c 0 t : FVec Ideal S1x256x7960 .f32) (ix3 u r k)
      = (m ((c : Thread nD τ).loc main_arg0) : FVec Ideal ⟨3, ![4, 2048, 7960]⟩ .f32) (ix3 3 R k) := by
  obtain ⟨⟨e0, e1, e2⟩, -⟩ := at_win t
  unfold iblk
  rw [View.read_apply]
  show V m c main_arg0 _ = _
  rw [V_main_arg0]
  refine congrArg (m ((c : Thread nD τ).loc main_arg0)) (idx3_eq ?_ ?_ ?_)
  · show win0_0.index t 0 * 1 + 1 * u.val = 3; rw [e0]; omega
  · show win0_0.index t 1 * 256 + 1 * r.val = R.val; rw [e1]; omega
  · show win0_0.index t 2 * 7960 + 1 * k.val = k.val; rw [e2]; omega

/-- Where an element of an output block lies. -/
theorem out_emb (t : Fin cfg0.N) (r : Fin 256) (k : Fin 8192) (R : Fin 2048) (hR : R.val = 256 * t.val + r.val) :
    ((cfg0.win 1).blk t).view.emb (ix2 r k) = ix2 (n0 := 2048) (n1 := 8192) R k := by
  obtain ⟨-, e0, e1⟩ := at_win t
  refine idx2_eq ?_ ?_
  · show win0_1.index t 0 * 256 + 1 * r.val = R.val; rw [e0]; omega
  · show win0_1.index t 1 * 8192 + 1 * k.val = k.val; rw [e1]; omega

/-- A block of columns with its leading axis dropped, at an index. -/
theorem drop_at {n : ℕ} (v : FVec Ideal ⟨3, ![1, 256, n]⟩ .f32) (h) (x : (⟨2, ![256, n]⟩ : Shape).Idx) :
    shapeCast ⟨2, ![256, n]⟩ v h x = v (ix3 0 (x 0) (x 1)) :=
  shapeCast_apply _ _ x _ (by
    rw [Shape.rowMajor_val_three, Shape.rowMajor_val_two]
    show (0 * 256 + (x 0).val) * n + (x 1).val = (x 0).val * n + (x 1).val
    rw [Nat.zero_mul, Nat.zero_add])

/-- The cast column blocks at an index. -/
theorem pay7_at (v : FVec Ideal S1x256x16 .f32) (x : S256x16.Idx) : k0_pay7 (F := Ideal) v x = v (ix3 0 (x 0) (x 1)) := drop_at v _ x
theorem pay6_at (v : FVec Ideal S1x256x8 .f32) (x : S256x8.Idx) : k0_pay6 (F := Ideal) v x = v (ix3 0 (x 0) (x 1)) := drop_at v _ x
theorem pay5_at (v : FVec Ideal S1x256x256 .f32) (x : S256x256.Idx) : k0_pay5 (F := Ideal) v x = v (ix3 0 (x 0) (x 1)) := drop_at v _ x
theorem pay4_at (v : FVec Ideal S1x256x4096 .f32) (x : S256x4096.Idx) : k0_pay4 (F := Ideal) v x = v (ix3 0 (x 0) (x 1)) := drop_at v _ x
theorem pay3_at (v : FVec Ideal S1x256x1536 .f32) (x : S256x1536.Idx) : k0_pay3 (F := Ideal) v x = v (ix3 0 (x 0) (x 1)) := drop_at v _ x
theorem pay2_at (v : FVec Ideal S1x256x2048 .f32) (x : S256x2048.Idx) : k0_pay2 (F := Ideal) v x = v (ix3 0 (x 0) (x 1)) := drop_at v _ x

theorem zero_bf16 : Ideal.ofBits .bf16 0x0000#16 = 0 := by
  simp [Ideal.ofBits, Ideal.ieee, -EReal.coe_mul]

/-- What one grid point leaves in the output block: its rows' columns in the branches' order. -/
theorem out_at (i : grid0.Coords) (a1 : Memref sig .tc .vmem S1x256x7960 .f32) (h1 : a1.IsWhole)
    (a2 : Memref sig .tc .vmem S256x8192 .bf16) (h2 : a2.IsWhole) (x0 : FVec Ideal S1x256x7960 .f32) (y : S256x8192.Idx) :
    out0_A_1 (F := Ideal) c i a1 h1 a2 h2 x0 y = pick (fun k => x0 (ix3 0 (y 0) k)) (y 1).val := by
  have hc := cover0_A_1 (F := Ideal) c i a1 h1 a2 h2 x0
  unfold out0_A_1
  rw [View.read_writes_eq_canon _ _ _ hc]
  refine View.canon_apply_of_pieces (fun y : S256x8192.Idx => pick (fun k => x0 (ix3 0 (y 0) k)) (y 1).val) _ ?_ y (hc y)
  unfold kernelRun0_A
  dsimp only
  sl_unfold_words
  simp only [View.readAt_eq_ld, h1.read_unread]
  intro pc hpc
  rcases List.mem_cons.mp hpc with rfl | hpc
  · intro x
    refine Eq.trans ?_ (pick_zero _ _ ?_).symm
    · exact zero_bf16
    · show 7960 ≤ 7960 + 1 * (x 1).val; omega
  rcases List.mem_cons.mp hpc with rfl | hpc
  · intro x
    have hx : (x 1).val < 16 := (x 1).isLt
    refine Eq.trans ?_ (pick_eq _ _ ⟨7944 + (x 1).val, by omega⟩ ?_).symm
    · refine (pay7_at _ x).trans (congrArg x0 (idx3_eq rfl rfl ?_))
      show 7944 + 1 * (x 1).val = 7944 + (x 1).val; omega
    · show src (7944 + 1 * (x 1).val) = 7944 + (x 1).val; unfold src; split_ifs <;> omega
  rcases List.mem_cons.mp hpc with rfl | hpc
  · intro x
    have hx : (x 1).val < 8 := (x 1).isLt
    refine Eq.trans ?_ (pick_eq _ _ ⟨2048 + (x 1).val, by omega⟩ ?_).symm
    · refine (pay6_at _ x).trans (congrArg x0 (idx3_eq rfl rfl ?_))
      show 2048 + 1 * (x 1).val = 2048 + (x 1).val; omega
    · show src (7936 + 1 * (x 1).val) = 2048 + (x 1).val; unfold src; split_ifs <;> omega
  rcases List.mem_cons.mp hpc with rfl | hpc
  · intro x
    have hx : (x 1).val < 256 := (x 1).isLt
    refine Eq.trans ?_ (pick_eq _ _ ⟨3592 + (x 1).val, by omega⟩ ?_).symm
    · refine (pay5_at _ x).trans (congrArg x0 (idx3_eq rfl rfl ?_))
      show 3592 + 1 * (x 1).val = 3592 + (x 1).val; omega
    · show src (7680 + 1 * (x 1).val) = 3592 + (x 1).val; unfold src; split_ifs <;> omega
  rcases List.mem_cons.mp hpc with rfl | hpc
  · intro x
    have hx : (x 1).val < 4096 := (x 1).isLt
    refine Eq.trans ?_ (pick_eq _ _ ⟨3848 + (x 1).val, by omega⟩ ?_).symm
    · refine (pay4_at _ x).trans (congrArg x0 (idx3_eq rfl rfl ?_))
      show 3848 + 1 * (x 1).val = 3848 + (x 1).val; omega
    · show src (3584 + 1 * (x 1).val) = 3848 + (x 1).val; unfold src; split_ifs <;> omega
  rcases List.mem_cons.mp hpc with rfl | hpc
  · intro x
    have hx : (x 1).val < 1536 := (x 1).isLt
    refine Eq.trans ?_ (pick_eq _ _ ⟨2056 + (x 1).val, by omega⟩ ?_).symm
    · refine (pay3_at _ x).trans (congrArg x0 (idx3_eq rfl rfl ?_))
      show 2056 + 1 * (x 1).val = 2056 + (x 1).val; omega
    · show src (2048 + 1 * (x 1).val) = 2056 + (x 1).val; unfold src; split_ifs <;> omega
  rcases List.mem_cons.mp hpc with rfl | hpc
  · intro x
    have hx : (x 1).val < 2048 := (x 1).isLt
    refine Eq.trans ?_ (pick_eq _ _ ⟨0 + (x 1).val, by omega⟩ ?_).symm
    · refine (pay2_at _ x).trans (congrArg x0 (idx3_eq rfl rfl ?_))
      show 0 + 1 * (x 1).val = 0 + (x 1).val; omega
    · show src (0 + 1 * (x 1).val) = 0 + (x 1).val; unfold src; split_ifs <;> omega
  nomatch hpc

/-- What one grid point leaves in the output block, placed in the argument. -/
theorem block (t : Fin cfg0.N) (r : Fin 256) (k : Fin 8192) (R : Fin 2048) (hR : R.val = 256 * t.val + r.val) :
    outsAt0 (F := Ideal) m c t (ix2 r k) = layer (m ((c : Thread nD τ).loc main_arg0)) (ix2 R k) := by
  unfold outsAt0
  rw [out_at]
  exact congrArg (pick · k.val) (funext fun q => blk0 m c t 0 r q R hR)

/-- The array after the run. -/
theorem array : (dats m 0 c).arrAt 1 cfg0.N = layer (m ((c : Thread nD τ).loc main_arg0)) := by
  have hN : cfg0.N = 8 := N_0
  refine (dats m 0 c).arrAt_eq_of_cover 1 _ (fun t _ => ?_) (fun i => ?_)
  · have ht : t.val < 8 := lt_of_lt_of_eq t.isLt hN
    funext y
    obtain ⟨r, k, rfl⟩ : ∃ (r : Fin 256) (k : Fin 8192), y = ix2 r k := ⟨_, _, eq_ix2 y⟩
    rw [View.read_apply, out_emb t r k ⟨256 * t.val + r.val, by omega⟩ rfl, Value.flushed1, Pipeline.Window.cut_apply,
      show (cfg0.win 1).xinj (grid0.coords t) (ix2 r k) = ix2 r k from idx2_eq rfl rfl]
    exact block m c t r k ⟨256 * t.val + r.val, by omega⟩ rfl
  · obtain ⟨a, k, rfl⟩ : ∃ (a : Fin 2048) (k : Fin 8192), i = ix2 a k := ⟨_, _, eq_ix2 i⟩
    have ht : a.val / 256 < cfg0.N := lt_of_lt_of_eq (by omega : a.val / 256 < 8) hN.symm
    refine ⟨⟨a.val / 256, ht⟩, flush0_1 _, ?_⟩
    rw [← out_emb ⟨a.val / 256, ht⟩ ⟨a.val % 256, by omega⟩ k a (by show a.val = 256 * (a.val / 256) + a.val % 256; omega)]
    exact View.emb_mem_set _ _

open Cert.InWeightRefIdeal Cert.InWeightRefIdeal.Read in
/-- The reference's stored weight at an index. -/
theorem stored (w : FVec Ideal ⟨3, ![4, 2048, 7960]⟩ .f32) (i : (⟨2, ![2048, 7960]⟩ : Shape).Idx) :
    val_main_v2 (F := Ideal) w i = w (ix3 3 (i 0) (i 1)) := by
  have h0 : (i 0).val < 2048 := (i 0).isLt
  have h1 : (i 1).val < 7960 := (i 1).isLt
  rw [val_main_v2_apply, val_main_v1_apply, val_main_v0_apply]
  refine congrArg w (idx3_eq ?_ ?_ ?_)
  · rfl
  · show ((i 0).val * 7960 + (i 1).val) / 7960 % 2048 = (i 0).val; omega
  · show ((i 0).val * 7960 + (i 1).val) % 7960 = (i 1).val; omega

open Cert.InWeightRefIdeal.Read in
/-- The reference's result. -/
theorem reference (w : FVec Ideal ⟨3, ![4, 2048, 7960]⟩ .f32) : val_main_v12 (F := Ideal) w = layer w := by
  funext i
  obtain ⟨a, j, rfl⟩ : ∃ (a : Fin 2048) (j : Fin 8192), i = ix2 a j := ⟨_, _, eq_ix2 i⟩
  show _ = pick (fun k => w (ix3 3 a k)) j.val
  have hj := j.isLt
  unfold val_main_v12
  by_cases h0 : j.val < 2048
  · refine (cat_at _ _ a j 0 (by simp) (val_main_v3 (F := Ideal) w) rfl 0 (by simp) ⟨j.val - 0, by omega⟩ (by show 0 + (j.val - 0) = j.val; omega)).trans ?_
    refine Eq.trans ?_ (pick_eq (fun k => w (ix3 3 a k)) j.val ⟨0 + (j.val - 0), by omega⟩ (by show src j.val = 0 + (j.val - 0); unfold src; split_ifs <;> omega)).symm
    rw [val_main_v3_apply, stored]
    refine congrArg w (idx3_eq rfl ?_ ?_)
    · rfl
    · first | rfl | (show _ = _; simp)
  by_cases h1 : j.val < 3584
  · refine (cat_at _ _ a j 1 (by simp) (val_main_v5 (F := Ideal) w) rfl 2048 (by simp) ⟨j.val - 2048, by omega⟩ (by show 2048 + (j.val - 2048) = j.val; omega)).trans ?_
    refine Eq.trans ?_ (pick_eq (fun k => w (ix3 3 a k)) j.val ⟨2056 + (j.val - 2048), by omega⟩ (by show src j.val = 2056 + (j.val - 2048); unfold src; split_ifs <;> omega)).symm
    rw [val_main_v5_apply, stored]
    refine congrArg w (idx3_eq rfl ?_ ?_)
    · rfl
    · first | rfl | (show _ = _; simp)
  by_cases h2 : j.val < 5632
  · refine (cat_at _ _ a j 2 (by simp) (val_main_v7 (F := Ideal) w) rfl 3584 (by simp) ⟨j.val - 3584, by omega⟩ (by show 3584 + (j.val - 3584) = j.val; omega)).trans ?_
    refine Eq.trans ?_ (pick_eq (fun k => w (ix3 3 a k)) j.val ⟨3848 + (j.val - 3584), by omega⟩ (by show src j.val = 3848 + (j.val - 3584); unfold src; split_ifs <;> omega)).symm
    rw [val_main_v7_apply, stored]
    refine congrArg w (idx3_eq rfl ?_ ?_)
    · rfl
    · first | rfl | (show _ = _; simp)
  by_cases h3 : j.val < 7680
  · refine (cat_at _ _ a j 3 (by simp) (val_main_v8 (F := Ideal) w) rfl 5632 (by simp) ⟨j.val - 5632, by omega⟩ (by show 5632 + (j.val - 5632) = j.val; omega)).trans ?_
    refine Eq.trans ?_ (pick_eq (fun k => w (ix3 3 a k)) j.val ⟨5896 + (j.val - 5632), by omega⟩ (by show src j.val = 5896 + (j.val - 5632); unfold src; split_ifs <;> omega)).symm
    rw [val_main_v8_apply, stored]
    refine congrArg w (idx3_eq rfl ?_ ?_)
    · rfl
    · first | rfl | (show _ = _; simp)
  by_cases h4 : j.val < 7936
  · refine (cat_at _ _ a j 4 (by simp) (val_main_v6 (F := Ideal) w) rfl 7680 (by simp) ⟨j.val - 7680, by omega⟩ (by show 7680 + (j.val - 7680) = j.val; omega)).trans ?_
    refine Eq.trans ?_ (pick_eq (fun k => w (ix3 3 a k)) j.val ⟨3592 + (j.val - 7680), by omega⟩ (by show src j.val = 3592 + (j.val - 7680); unfold src; split_ifs <;> omega)).symm
    rw [val_main_v6_apply, stored]
    refine congrArg w (idx3_eq rfl ?_ ?_)
    · rfl
    · first | rfl | (show _ = _; simp)
  by_cases h5 : j.val < 7944
  · refine (cat_at _ _ a j 5 (by simp) (val_main_v4 (F := Ideal) w) rfl 7936 (by simp) ⟨j.val - 7936, by omega⟩ (by show 7936 + (j.val - 7936) = j.val; omega)).trans ?_
    refine Eq.trans ?_ (pick_eq (fun k => w (ix3 3 a k)) j.val ⟨2048 + (j.val - 7936), by omega⟩ (by show src j.val = 2048 + (j.val - 7936); unfold src; split_ifs <;> omega)).symm
    rw [val_main_v4_apply, stored]
    refine congrArg w (idx3_eq rfl ?_ ?_)
    · rfl
    · first | rfl | (show _ = _; simp)
  by_cases h6 : j.val < 7952
  · refine (cat_at _ _ a j 6 (by simp) (val_main_v9 (F := Ideal) w) rfl 7944 (by simp) ⟨j.val - 7944, by omega⟩ (by show 7944 + (j.val - 7944) = j.val; omega)).trans ?_
    refine Eq.trans ?_ (pick_eq (fun k => w (ix3 3 a k)) j.val ⟨7944 + (j.val - 7944), by omega⟩ (by show src j.val = 7944 + (j.val - 7944); unfold src; split_ifs <;> omega)).symm
    rw [val_main_v9_apply, stored]
    refine congrArg w (idx3_eq rfl ?_ ?_)
    · rfl
    · first | rfl | (show _ = _; simp)
  by_cases h7 : j.val < 7960
  · refine (cat_at _ _ a j 7 (by simp) (val_main_v10 (F := Ideal) w) rfl 7952 (by simp) ⟨j.val - 7952, by omega⟩ (by show 7952 + (j.val - 7952) = j.val; omega)).trans ?_
    refine Eq.trans ?_ (pick_eq (fun k => w (ix3 3 a k)) j.val ⟨7952 + (j.val - 7952), by omega⟩ (by show src j.val = 7952 + (j.val - 7952); unfold src; split_ifs <;> omega)).symm
    rw [val_main_v10_apply, stored]
    refine congrArg w (idx3_eq rfl ?_ ?_)
    · rfl
    · first | rfl | (show _ = _; simp)
  · refine (cat_at _ _ a j 8 (by simp) (val_main_v11 (F := Ideal)) rfl 7960 (by simp) ⟨j.val - 7960, by omega⟩ (by show 7960 + (j.val - 7960) = j.val; omega)).trans ?_
    rw [pick_zero _ _ (by omega), val_main_v11_apply]
    exact zero_bf16

end Cert.InWeightIdeal.Own

end
-- ==== Proof.lean ====
/-
  THE CLAIMS PUT TOGETHER. The frames are the generated ones; each value claim sets the kernel's result array, read at an
  index in its own Array module, beside the reference's result, read at the same index in its own Ref module, on
  memories that agree on the arguments.
-/
module

public import proofs.«01_k».proof.Defs
public import proofs.«01_k».proof.Proof.Fox.Array
public import proofs.«01_k».proof.Proof.Fox.Meet
public import proofs.«01_k».proof.Proof.Fox.Tables
public import proofs.«01_k».proof.Proof.Gen.Fox.Flash
public import proofs.«01_k».proof.Proof.Gen.FoxIdeal.Flash
public import proofs.«01_k».proof.Proof.Gen.FoxRefIdeal.Run
public import proofs.«01_k».proof.Proof.Gen.FoxRefIdeal.Read
public import proofs.«01_k».proof.Proof.Gen.Pre_fox_tables
public import proofs.«01_k».proof.Proof.Gen.Pre_fox_finite
public import proofs.«01_k».proof.Proof.InProj.Array
public import proofs.«01_k».proof.Proof.InProj.Ref
public import proofs.«01_k».proof.Proof.Ffn.Array
public import proofs.«01_k».proof.Proof.Ffn.Ref
public import proofs.«01_k».proof.Proof.Merge.Array
public import proofs.«01_k».proof.Proof.Merge.Ref
public import proofs.«01_k».proof.Proof.Rope.Array
public import proofs.«01_k».proof.Proof.Cast.Weight
public import proofs.«01_k».proof.Proof.Cast.Branch
public import proofs.«01_k».proof.Proof.Cast.GateWeight
public import proofs.«01_k».proof.Proof.Cast.InWeight
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Rope.Frame
public import proofs.«01_k».proof.Proof.Gen.RopeIdeal.Value
public import proofs.«01_k».proof.Proof.Gen.RopeRefIdeal.Run
public import proofs.«01_k».proof.Proof.Gen.RopeRefIdeal.Read
public import proofs.«01_k».proof.Proof.Gen.Weight.Frame
public import proofs.«01_k».proof.Proof.Gen.WeightIdeal.Value
public import proofs.«01_k».proof.Proof.Gen.WeightRefIdeal.Run
public import proofs.«01_k».proof.Proof.Gen.WeightRefIdeal.Read
public import proofs.«01_k».proof.Proof.Gen.Branch.Frame
public import proofs.«01_k».proof.Proof.Gen.BranchIdeal.Value
public import proofs.«01_k».proof.Proof.Gen.BranchRefIdeal.Run
public import proofs.«01_k».proof.Proof.Gen.BranchRefIdeal.Read
public import proofs.«01_k».proof.Proof.Gen.GateWeight.Frame
public import proofs.«01_k».proof.Proof.Gen.GateWeightIdeal.Value
public import proofs.«01_k».proof.Proof.Gen.GateWeightRefIdeal.Run
public import proofs.«01_k».proof.Proof.Gen.GateWeightRefIdeal.Read
public import proofs.«01_k».proof.Proof.Gen.InWeight.Frame
public import proofs.«01_k».proof.Proof.Gen.InWeightIdeal.Value
public import proofs.«01_k».proof.Proof.Gen.InWeightRefIdeal.Run
public import proofs.«01_k».proof.Proof.Gen.InWeightRefIdeal.Read
public import Idealize.ShloMosaic.Adequacy
public import Idealize.ShloMosaic.Init
public import Idealize.ShloMosaic.Lib.Quiescent

@[expose] public section

noncomputable section

namespace Cert.Proof

open Idealize.ShloMosaic Idealize.SL.Sem

/-- The reference of the forgetting attention runs, from its generated run. -/
theorem quiescent_FoxRefIdeal : quiescent_FoxRefIdeal := fun m ρ _ =>
  (θ_run Cert.FoxRefIdeal.defs _ _).mono (fun r h => ⟨fun c => (h c).2, sem_eq_zero_of_no_sems (by decide) r.2⟩)
    (Cert.FoxRefIdeal.Value.run (F := Ideal) m ρ)

/-- It does on finite queries and keys. -/
theorem quiescent_FoxRefIdeal_pre_fox_finite : quiescent_FoxRefIdeal_pre_fox_finite := fun m ρ _ =>
  (θ_run Cert.FoxRefIdeal.defs _ _).mono (fun r h => ⟨fun c => (h c).2, sem_eq_zero_of_no_sems (by decide) r.2⟩)
    (Cert.FoxRefIdeal.Value.run (F := Ideal) m ρ)

/-- The forgetting attention and its reference leave equal arrays. -/
theorem algebraic_FoxIdeal_FoxRefIdeal_pre_fox_finite : algebraic_FoxIdeal_FoxRefIdeal_pre_fox_finite := by
  intro m ρ m' ρ' hpre hagree
  have hp := Cert.Tables.ideal_pinned_finite m hpre
  refine ⟨fun c => Cert.FoxIdeal.Own.result m c, ?_, ?_⟩
  · refine (θ_run Cert.FoxIdeal.defs _ _).mono (fun _ h c => ⟨?_, h.1 c⟩)
      (θ_run_and (Cert.FoxIdeal.Gen.unchanged 0 m ρ hp) (Cert.FoxIdeal.Gen.run_main 0 m ρ hp))
    exact ((h.2 c).1 (4 : Fin 5)).trans (Cert.FoxIdeal.Own.array m ρ c)
  · refine (θ_run Cert.FoxRefIdeal.defs _ _).mono (fun _ h c => ⟨?_, (h c).2⟩) (Cert.FoxRefIdeal.Value.run (F := Ideal) m' ρ')
    rw [(h c).1]
    refine (Cert.FoxRefIdeal.Read.val_main_v44_eq _ _).trans (funext fun i => ?_)
    rw [eq_ix2 i]
    obtain ⟨-, -, e2, e3, e4, e5⟩ := hagree c
    rw [e2, e3, e4, e5]
    exact Cert.FoxIdeal.Own.meet _ _ _ _ (Cert.Tables.queries_real m hpre c) (Cert.Tables.keys_real m hpre c) _ _

/-- The reference of the feed-forward call runs, from its generated run. -/
theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The reference of the input projection runs, from its generated run. -/
theorem quiescent_InProjRefIdeal : quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- The reference of the merge runs, from its generated run. -/
theorem quiescent_MergeRefIdeal : quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The feed-forward call and its reference leave equal arrays. -/
theorem algebraic_FfnIdeal_FfnRefIdeal : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  rw [(h c).1]
  simp only [hagree c]
  refine (Cert.FfnRefIdeal.Read.val_main_v23_eq _ _ _ _ _).trans (funext fun i => ?_)
  rw [eq_ix2 i]
  exact (Cert.FfnRefIdeal.Own.result_at _ _ _ _ _ _ _).trans (Cert.FfnIdeal.Own.array_at m c _ _).symm

/-- The input projection and its reference leave equal arrays. -/
theorem algebraic_InProjIdeal_InProjRefIdeal : algebraic_InProjIdeal_InProjRefIdeal := by
  intro m ρ m' ρ' _ hagree
  refine ⟨_, Cert.InProjIdeal.Value.run (F := Ideal) m ρ, ?_⟩
  refine (θ_run Cert.InProjRefIdeal.defs _ _).mono (fun _ h c => ⟨?_, (h c).2⟩) (Cert.InProjRefIdeal.Value.run (F := Ideal) m' ρ')
  rw [(h c).1]
  simp only [hagree c]
  refine (Cert.InProjRefIdeal.Read.val_main_v14_eq _ _ _).trans (funext fun i => ?_)
  rw [eq_ix2 i]
  exact (Cert.InProjRefIdeal.Own.result_at _ _ _ _ _).trans (Cert.InProjIdeal.Own.array_at m c _ _).symm

/-- The merge and its reference leave equal arrays. -/
theorem algebraic_MergeIdeal_MergeRefIdeal : algebraic_MergeIdeal_MergeRefIdeal := by
  intro m ρ m' ρ' _ hagree
  refine ⟨_, Cert.MergeIdeal.Value.run (F := Ideal) m ρ, ?_⟩
  refine (θ_run Cert.MergeRefIdeal.defs _ _).mono (fun _ h c => ⟨?_, (h c).2⟩) (Cert.MergeRefIdeal.Value.run (F := Ideal) m' ρ')
  rw [(h c).1]
  simp only [hagree c]
  refine (Cert.MergeRefIdeal.Read.val_main_v41_eq _ _ _ _ _ _ _ _ _ _).trans (funext fun i => ?_)
  rw [eq_ix2 i]
  refine (Cert.MergeRefIdeal.Own.result_at _ _ _ _ _ _ _ _ _ _ _ _).trans (Eq.trans ?_ (Cert.MergeIdeal.Own.array_at m c _ _).symm)
  simp only [hagree c]

/-- The reference of the rotary tables runs, from its generated run. -/
theorem quiescent_RopeRefIdeal : quiescent_RopeRefIdeal := fun m ρ _ =>
  (θ_run Cert.RopeRefIdeal.defs _ _).mono (fun r h => ⟨fun c => (h c).2.2, sem_eq_zero_of_no_sems (by decide) r.2⟩)
    (Cert.RopeRefIdeal.Value.run (F := Ideal) m ρ)

/-- The reference of the cast of a weight runs, from its generated run. -/
theorem quiescent_WeightRefIdeal : quiescent_WeightRefIdeal := fun m ρ _ =>
  (θ_run Cert.WeightRefIdeal.defs _ _).mono (fun r h => ⟨fun c => (h c).2, sem_eq_zero_of_no_sems (by decide) r.2⟩)
    (Cert.WeightRefIdeal.Value.run (F := Ideal) m ρ)

/-- The reference of the cast of the branch weights runs, from its generated run. -/
theorem quiescent_BranchRefIdeal : quiescent_BranchRefIdeal := fun m ρ _ =>
  (θ_run Cert.BranchRefIdeal.defs _ _).mono (fun r h => ⟨fun c => (h c).2, sem_eq_zero_of_no_sems (by decide) r.2⟩)
    (Cert.BranchRefIdeal.Value.run (F := Ideal) m ρ)

/-- The reference of the cast of the gates' weight runs, from its generated run. -/
theorem quiescent_GateWeightRefIdeal : quiescent_GateWeightRefIdeal := fun m ρ _ =>
  (θ_run Cert.GateWeightRefIdeal.defs _ _).mono (fun r h => ⟨fun c => (h c).2, sem_eq_zero_of_no_sems (by decide) r.2⟩)
    (Cert.GateWeightRefIdeal.Value.run (F := Ideal) m ρ)

/-- The reference of the cast of the input weight runs, from its generated run. -/
theorem quiescent_InWeightRefIdeal : quiescent_InWeightRefIdeal := fun m ρ _ =>
  (θ_run Cert.InWeightRefIdeal.defs _ _).mono (fun r h => ⟨fun c => (h c).2, sem_eq_zero_of_no_sems (by decide) r.2⟩)
    (Cert.InWeightRefIdeal.Value.run (F := Ideal) m ρ)

/-- The rotary tables and their reference leave equal arrays. -/
theorem algebraic_RopeIdeal_RopeRefIdeal : algebraic_RopeIdeal_RopeRefIdeal := by
  intro m ρ m' ρ' _ hagree
  refine ⟨_, _, Cert.RopeIdeal.Value.run_blocks (F := Ideal) m ρ, ?_⟩
  refine (θ_run Cert.RopeRefIdeal.defs _ _).mono (fun _ h c => ⟨?_, ?_, (h c).2.2⟩) (Cert.RopeRefIdeal.Value.run (F := Ideal) m' ρ')
  · rw [(h c).1]
    exact ((Cert.RopeRefIdeal.Read.val_main_v16_eq _).trans (Cert.RopeIdeal.Own.reference_cos _)).trans
      ((congrArg Cert.RopeIdeal.Own.cosTable (hagree c)).trans (Cert.RopeIdeal.Own.array3 m c).symm)
  · rw [(h c).2.1]
    exact ((Cert.RopeRefIdeal.Read.val_main_v19_eq _).trans (Cert.RopeIdeal.Own.reference_sin _)).trans
      ((congrArg Cert.RopeIdeal.Own.sinTable (hagree c)).trans (Cert.RopeIdeal.Own.array4 m c).symm)

/-- The cast of a weight and its reference leave equal arrays. -/
theorem algebraic_WeightIdeal_WeightRefIdeal : algebraic_WeightIdeal_WeightRefIdeal := by
  intro m ρ m' ρ' _ hagree
  refine ⟨_, Cert.WeightIdeal.Value.run_blocks (F := Ideal) m ρ, ?_⟩
  refine (θ_run Cert.WeightRefIdeal.defs _ _).mono (fun _ h c => ⟨?_, (h c).2⟩) (Cert.WeightRefIdeal.Value.run (F := Ideal) m' ρ')
  rw [(h c).1]
  exact ((Cert.WeightRefIdeal.Read.val_main_v2_eq _).trans (Cert.WeightIdeal.Own.reference _)).trans
    ((congrArg Cert.WeightIdeal.Own.layer (hagree c)).trans (Cert.WeightIdeal.Own.array m c).symm)

/-- The cast of the branch weights and its reference leave equal arrays. -/
theorem algebraic_BranchIdeal_BranchRefIdeal : algebraic_BranchIdeal_BranchRefIdeal := by
  intro m ρ m' ρ' _ hagree
  refine ⟨_, Cert.BranchIdeal.Value.run_blocks (F := Ideal) m ρ, ?_⟩
  refine (θ_run Cert.BranchRefIdeal.defs _ _).mono (fun _ h c => ⟨?_, (h c).2⟩) (Cert.BranchRefIdeal.Value.run (F := Ideal) m' ρ')
  rw [(h c).1]
  exact ((Cert.BranchRefIdeal.Read.val_main_v2_eq _).trans (Cert.BranchIdeal.Own.reference _)).trans
    ((congrArg Cert.BranchIdeal.Own.layer (hagree c)).trans (Cert.BranchIdeal.Own.array m c).symm)

/-- The cast of the gates' weight and its reference leave equal arrays. -/
theorem algebraic_GateWeightIdeal_GateWeightRefIdeal : algebraic_GateWeightIdeal_GateWeightRefIdeal := by
  intro m ρ m' ρ' _ hagree
  refine ⟨_, Cert.GateWeightIdeal.Value.run_blocks (F := Ideal) m ρ, ?_⟩
  refine (θ_run Cert.GateWeightRefIdeal.defs _ _).mono (fun _ h c => ⟨?_, (h c).2⟩) (Cert.GateWeightRefIdeal.Value.run (F := Ideal) m' ρ')
  rw [(h c).1]
  exact ((Cert.GateWeightRefIdeal.Read.val_main_v3_eq _).trans (Cert.GateWeightIdeal.Own.reference _)).trans
    ((congrArg Cert.GateWeightIdeal.Own.layer (hagree c)).trans (Cert.GateWeightIdeal.Own.array m c).symm)

/-- The cast of the input weight and its reference leave equal arrays. -/
theorem algebraic_InWeightIdeal_InWeightRefIdeal : algebraic_InWeightIdeal_InWeightRefIdeal := by
  intro m ρ m' ρ' _ hagree
  refine ⟨_, Cert.InWeightIdeal.Value.run_blocks (F := Ideal) m ρ, ?_⟩
  refine (θ_run Cert.InWeightRefIdeal.defs _ _).mono (fun _ h c => ⟨?_, (h c).2⟩) (Cert.InWeightRefIdeal.Value.run (F := Ideal) m' ρ')
  rw [(h c).1]
  exact ((Cert.InWeightRefIdeal.Read.val_main_v12_eq _).trans (Cert.InWeightIdeal.Own.reference _)).trans
    ((congrArg Cert.InWeightIdeal.Own.layer (hagree c)).trans (Cert.InWeightIdeal.Own.array m c).symm)

/-- All claims. -/
theorem claim : Cert.Claim := ⟨Cert.Fox.Gen.facts, Cert.FoxIdeal.Gen.facts, Cert.FoxRefIdeal.Gen.facts, Cert.Ffn.Gen.facts, Cert.FfnIdeal.Gen.facts, Cert.FfnRefIdeal.Gen.facts, Cert.InProj.Gen.facts, Cert.InProjIdeal.Gen.facts, Cert.InProjRefIdeal.Gen.facts, Cert.Merge.Gen.facts, Cert.MergeIdeal.Gen.facts, Cert.MergeRefIdeal.Gen.facts, Cert.Rope.Gen.facts, Cert.RopeIdeal.Gen.facts, Cert.RopeRefIdeal.Gen.facts, Cert.Weight.Gen.facts, Cert.WeightIdeal.Gen.facts, Cert.WeightRefIdeal.Gen.facts, Cert.Branch.Gen.facts, Cert.BranchIdeal.Gen.facts, Cert.BranchRefIdeal.Gen.facts, Cert.GateWeight.Gen.facts, Cert.GateWeightIdeal.Gen.facts, Cert.GateWeightRefIdeal.Gen.facts, Cert.InWeight.Gen.facts, Cert.InWeightIdeal.Gen.facts, Cert.InWeightRefIdeal.Gen.facts, Cert.Pre_fox_tables.Gen.facts, Cert.Pre_fox_finite.Gen.facts,
  fun m ρ h => Cert.Fox.Gen.frame 0 m ρ (Cert.Tables.fox_pinned m h), fun m ρ h => Cert.Fox.Gen.frame 0 m ρ (Cert.Tables.fox_pinned_finite m h),
  fun m ρ h => Cert.FoxIdeal.Gen.frame 0 m ρ (Cert.Tables.ideal_pinned m h), fun m ρ h => Cert.FoxIdeal.Gen.frame 0 m ρ (Cert.Tables.ideal_pinned_finite m h),
  quiescent_FoxRefIdeal, quiescent_FoxRefIdeal_pre_fox_finite,
  fun m ρ _ => Cert.Ffn.Gen.frame m ρ, fun m ρ _ => Cert.FfnIdeal.Gen.frame m ρ, quiescent_FfnRefIdeal, fun m ρ _ => Cert.InProj.Gen.frame m ρ, fun m ρ _ => Cert.InProjIdeal.Gen.frame m ρ, quiescent_InProjRefIdeal, fun m ρ _ => Cert.Merge.Gen.frame m ρ, fun m ρ _ => Cert.MergeIdeal.Gen.frame m ρ, quiescent_MergeRefIdeal,
  fun m ρ _ => Cert.Rope.Gen.frame m ρ, fun m ρ _ => Cert.RopeIdeal.Gen.frame m ρ, quiescent_RopeRefIdeal,
  fun m ρ _ => Cert.Weight.Gen.frame m ρ, fun m ρ _ => Cert.WeightIdeal.Gen.frame m ρ, quiescent_WeightRefIdeal,
  fun m ρ _ => Cert.Branch.Gen.frame m ρ, fun m ρ _ => Cert.BranchIdeal.Gen.frame m ρ, quiescent_BranchRefIdeal,
  fun m ρ _ => Cert.GateWeight.Gen.frame m ρ, fun m ρ _ => Cert.GateWeightIdeal.Gen.frame m ρ, quiescent_GateWeightRefIdeal,
  fun m ρ _ => Cert.InWeight.Gen.frame m ρ, fun m ρ _ => Cert.InWeightIdeal.Gen.frame m ρ, quiescent_InWeightRefIdeal,
  (trivial : preserves_Fox_FoxIdeal), algebraic_FoxIdeal_FoxRefIdeal_pre_fox_finite, (trivial : preserves_Ffn_FfnIdeal), algebraic_FfnIdeal_FfnRefIdeal, (trivial : preserves_InProj_InProjIdeal), algebraic_InProjIdeal_InProjRefIdeal, (trivial : preserves_Merge_MergeIdeal), algebraic_MergeIdeal_MergeRefIdeal,
  (trivial : preserves_Rope_RopeIdeal), algebraic_RopeIdeal_RopeRefIdeal,
  (trivial : preserves_Weight_WeightIdeal), algebraic_WeightIdeal_WeightRefIdeal,
  (trivial : preserves_Branch_BranchIdeal), algebraic_BranchIdeal_BranchRefIdeal,
  (trivial : preserves_GateWeight_GateWeightIdeal), algebraic_GateWeightIdeal_GateWeightRefIdeal,
  (trivial : preserves_InWeight_InWeightIdeal), algebraic_InWeightIdeal_InWeightRefIdeal⟩

end Cert.Proof

end
